-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x128 : Shape := ⟨2, ![256, 128]⟩
abbrev S512x1 : Shape := ⟨2, ![512, 1]⟩
abbrev S4x256x512 : Shape := ⟨3, ![4, 256, 512]⟩
abbrev S512x512 : Shape := ⟨2, ![512, 512]⟩
abbrev S32x16x512 : Shape := ⟨3, ![32, 16, 512]⟩
abbrev S31 : Shape := ⟨1, ![31]⟩
abbrev S_ : Shape := ⟨0, ![]⟩
abbrev S512x128 : Shape := ⟨2, ![512, 128]⟩
abbrev S512 : Shape := ⟨1, ![512]⟩
abbrev S512x16 : Shape := ⟨2, ![512, 16]⟩
abbrev S16x256 : Shape := ⟨2, ![16, 256]⟩
abbrev S4x4x256 : Shape := ⟨3, ![4, 4, 256]⟩
abbrev S4x4x512 : Shape := ⟨3, ![4, 4, 512]⟩
abbrev S16x512 : Shape := ⟨2, ![16, 512]⟩
abbrev S1x16x512 : Shape := ⟨3, ![1, 16, 512]⟩
abbrev S1 : Shape := ⟨1, ![1]⟩

abbrev nBuf : Space → Nat
  | .hbm => 5
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x128, .f32⟩
  | .hbm, ⟨2, _⟩ => ⟨S512x1, .i32⟩
  | .hbm, ⟨3, _⟩ => ⟨S4x256x512, .f32⟩
  | .hbm, ⟨4, _⟩ => ⟨S512x512, .f32⟩
  | .local _ .vmem, ⟨0, _⟩ => ⟨S512x256, .f32⟩
  | .local _ .vmem, ⟨1, _⟩ => ⟨S512x1, .i32⟩
  | .local _ .vmem, ⟨2, _⟩ => ⟨S4x256x512, .f32⟩
  | .local _ .vmem, ⟨3, _⟩ => ⟨S512x512, .f32⟩
  | .local _ .vmem, ⟨4, _⟩ => ⟨S32x16x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c1_i32_0 : BitVec 32 := 1#32
  let c31_i32 : BitVec 32 := 31#32
  let v4 : BitVec 32 := Scalar.addi c1_i32_0 c31_i32
  let c1_i32_1 : BitVec 32 := 1#32
  ⟨c1_i32_0, v4, c1_i32_1⟩
def k0_dev1 (d0 : Dev nD) (k0_t1 : Fin k0_t1_loop.trips) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let c1_i32_1 : BitVec 32 := 1#32
  let arg7 : BitVec 32 := Scf.iv c1_i32_0 c1_i32_1 k0_t1
  let v267 : BitVec 32 := Scalar.addi v2 arg7
  let c32_i32_98 : BitVec 32 := 32#32
  let v268 : BitVec 32 := Scalar.remsi v267 c32_i32_98
  let c1_i32_100 : BitVec 32 := 1#32
  let v269 : BitVec 32 := Scalar.muli v268 c1_i32_100
  let v270 : BitVec 32 := Scalar.addi c0_i32_101 v269
  v270.toNat
@[reducible] def k0_t2_loop : Scf.Loop 32 :=
  let c1_i32_46 : BitVec 32 := 1#32
  let c31_i32_47 : BitVec 32 := 31#32
  let v146 : BitVec 32 := Scalar.addi c1_i32_46 c31_i32_47
  let c1_i32_48 : BitVec 32 := 1#32
  ⟨c1_i32_46, v146, c1_i32_48⟩
def k0_off1 (k0_t2 : Fin k0_t2_loop.trips) : Fin 1 → Nat :=
  let c1_i32_46 : BitVec 32 := 1#32
  let c1_i32_48 : BitVec 32 := 1#32
  let arg7 : BitVec 32 := Scf.iv c1_i32_46 c1_i32_48 k0_t2
  let c1_i32_98 : BitVec 32 := 1#32
  let v267 : BitVec 32 := Scalar.subi arg7 c1_i32_98
  ![v267.toNat]
def k0_off2 (k0_t2 : Fin k0_t2_loop.trips) : Fin 3 → Nat :=
  let c1_i32_46 : BitVec 32 := 1#32
  let c1_i32_48 : BitVec 32 := 1#32
  let arg7 : BitVec 32 := Scf.iv c1_i32_46 c1_i32_48 k0_t2
  let c0_i32_104 : BitVec 32 := 0#32
  let c0_i32_105 : BitVec 32 := 0#32
  ![arg7.toNat, 0, 0]
def k0_dev2 (d0 : Dev nD) (k0_t2 : Fin k0_t2_loop.trips) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_46 : BitVec 32 := 1#32
  let c1_i32_48 : BitVec 32 := 1#32
  let arg7 : BitVec 32 := Scf.iv c1_i32_46 c1_i32_48 k0_t2
  let v269 : BitVec 32 := Scalar.addi v2 arg7
  let c32_i32_100 : BitVec 32 := 32#32
  let v270 : BitVec 32 := Scalar.remsi v269 c32_i32_100
  let c1_i32_102 : BitVec 32 := 1#32
  let v271 : BitVec 32 := Scalar.muli v270 c1_i32_102
  let v272 : BitVec 32 := Scalar.addi c0_i32_103 v271
  v272.toNat
@[reducible] def k0_t3_loop : Scf.Loop 32 :=
  let c1_i32_84 : BitVec 32 := 1#32
  let c31_i32_85 : BitVec 32 := 31#32
  let v261 : BitVec 32 := Scalar.addi c1_i32_84 c31_i32_85
  let c1_i32_86 : BitVec 32 := 1#32
  ⟨c1_i32_84, v261, c1_i32_86⟩
def k0_off3 (k0_t3 : Fin k0_t3_loop.trips) : Fin 1 → Nat :=
  let c1_i32_84 : BitVec 32 := 1#32
  let c1_i32_86 : BitVec 32 := 1#32
  let arg7 : BitVec 32 := Scf.iv c1_i32_84 c1_i32_86 k0_t3
  let c1_i32_99 : BitVec 32 := 1#32
  let v268 : BitVec 32 := Scalar.subi arg7 c1_i32_99
  ![v268.toNat]
def k0_off4 (k0_t3 : Fin k0_t3_loop.trips) : Fin 3 → Nat :=
  let c1_i32_84 : BitVec 32 := 1#32
  let c1_i32_86 : BitVec 32 := 1#32
  let arg7 : BitVec 32 := Scf.iv c1_i32_84 c1_i32_86 k0_t3
  let c0_i32_104 : BitVec 32 := 0#32
  let c0_i32_105 : BitVec 32 := 0#32
  ![arg7.toNat, 0, 0]
@[reducible] def k0_t4_loop : Scf.Loop 32 :=
  let c1_i32_88 : BitVec 32 := 1#32
  let c31_i32_89 : BitVec 32 := 31#32
  let v262 : BitVec 32 := Scalar.addi c1_i32_88 c31_i32_89
  let c1_i32_90 : BitVec 32 := 1#32
  ⟨c1_i32_88, v262, c1_i32_90⟩
def k0_off5 (k0_t4 : Fin k0_t4_loop.trips) : Fin 1 → Nat :=
  let c1_i32_88 : BitVec 32 := 1#32
  let c1_i32_90 : BitVec 32 := 1#32
  let arg7 : BitVec 32 := Scf.iv c1_i32_88 c1_i32_90 k0_t4
  let c1_i32_98 : BitVec 32 := 1#32
  let v267 : BitVec 32 := Scalar.subi arg7 c1_i32_98
  ![v267.toNat]
def k0_off6 (k0_t4 : Fin k0_t4_loop.trips) : Fin 3 → Nat :=
  let c1_i32_88 : BitVec 32 := 1#32
  let c1_i32_90 : BitVec 32 := 1#32
  let arg7 : BitVec 32 := Scf.iv c1_i32_88 c1_i32_90 k0_t4
  let c0_i32_105 : BitVec 32 := 0#32
  let c0_i32_106 : BitVec 32 := 0#32
  ![arg7.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x128 : Shape := ⟨2, ![256, 128]⟩
abbrev S512x1 : Shape := ⟨2, ![512, 1]⟩
abbrev S128x256x512 : Shape := ⟨3, ![128, 256, 512]⟩
abbrev S512 : Shape := ⟨1, ![512]⟩
abbrev S512x512 : Shape := ⟨2, ![512, 512]⟩
abbrev S1x512 : Shape := ⟨2, ![1, 512]⟩
abbrev S_ : Shape := ⟨0, ![]⟩
abbrev S512x256x512 : Shape := ⟨3, ![512, 256, 512]⟩

abbrev nBuf : Space → Nat
  | .hbm => 44
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x128, .f32⟩
  | .hbm, ⟨2, _⟩ => ⟨S512x1, .i32⟩
  | .hbm, ⟨3, _⟩ => ⟨S128x256x512, .f32⟩
  | .hbm, ⟨4, _⟩ => ⟨S512, .i32⟩
  | .hbm, ⟨5, _⟩ => ⟨S512x512, .i32⟩
  | .hbm, ⟨6, _⟩ => ⟨S512x512, .i32⟩
  | .hbm, ⟨7, _⟩ => ⟨S1x512, .i32⟩
  | .hbm, ⟨8, _⟩ => ⟨S512x1, .i32⟩
  | .hbm, ⟨9, _⟩ => ⟨S512x512, .i32⟩
  | .hbm, ⟨10, _⟩ => ⟨S512x512, .i32⟩
  | .hbm, ⟨11, _⟩ => ⟨S512x512, .i1⟩
  | .hbm, ⟨12, _⟩ => ⟨S512x512, .i1⟩
  | .hbm, ⟨13, _⟩ => ⟨S512x512, .i1⟩
  | .hbm, ⟨14, _⟩ => ⟨S512x512, .i32⟩
  | .hbm, ⟨15, _⟩ => ⟨S_, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S512x256x512, .f32⟩
  | .hbm, ⟨37, _⟩ => ⟨S512x512, .f32⟩
  | .hbm, ⟨38, _⟩ => ⟨S512x1, .i1⟩
  | .hbm, ⟨39, _⟩ => ⟨S_, .f32⟩
  | .hbm, ⟨40, _⟩ => ⟨S_, .f32⟩
  | .hbm, ⟨41, _⟩ => ⟨S512x512, .i1⟩
  | .hbm, ⟨42, _⟩ => ⟨S512x512, .f32⟩
  | .hbm, ⟨43, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Cells.lean ====
/-
# The mesh of the dispatch kernel: devices, semaphores, slots

Thirty-two devices in a circle. Device `c` sends its block to the device `k + 1` places further on, for `k < 31`;
the block lands there in slot `k + 1` of the communication buffer. This module names the devices, the semaphore
cells and the slots, and proves the arithmetic about them that the protocol needs.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option backward.proofsInPublic true

noncomputable section

namespace Cert.Moe

open Cert.KernelIdeal Cert.KernelIdeal.Gen
open Idealize.ShloMosaic
open Idealize.ShloMosaic.TcCoe
open Idealize.SL Idealize.SL.Sem

/-! ## The circle of devices -/

/-- The device `k + 1` places after `c` on the circle. -/
def dst (c : Dev nD) (k : Fin 31) : Dev nD := ⟨(c.val + k.val + 1) % 32, Nat.mod_lt _ (by decide)⟩

/-- Going `k + 1` places on and then `31 - k` places on is a full turn. -/
theorem dst_rev (c : Dev nD) (k : Fin 31) : dst (dst c k) k.rev = c := by
  have hc : c.val < 32 := c.isLt
  have hk := k.isLt
  refine Fin.ext ?_
  simp only [dst, Fin.val_rev]
  omega

/-- The same full turn, the other leg first. -/
theorem dst_rev' (c : Dev nD) (k : Fin 31) : dst (dst c k.rev) k = c := by
  have h := dst_rev c k.rev
  rwa [Fin.rev_rev] at h

/-- Going `k + 1` places on, as a rearrangement of the devices. -/
def turn (k : Fin 31) : Dev nD ≃ Dev nD := ⟨fun c => dst c k, fun c => dst c k.rev, fun c => dst_rev c k, fun c => dst_rev' c k⟩

/-- Who sends to `c` over distance `k + 1`. -/
theorem dst_eq_iff (d c : Dev nD) (k : Fin 31) : dst d k = c ↔ d = dst c k.rev :=
  ⟨fun h => by rw [← h, dst_rev], fun h => by rw [h, dst_rev']⟩

theorem trips1 : k0_t1_loop.trips = 31 := by decide
theorem trips2 : k0_t2_loop.trips = 31 := by decide
theorem trips3 : k0_t3_loop.trips = 31 := by decide
theorem trips4 : k0_t4_loop.trips = 31 := by decide

/-- The device trip `k` of the signal loop names. -/
theorem sig_dev (c : Dev nD) (k : Fin k0_t1_loop.trips) :
    (⟨k0_dev1 c k, k0_dev1_lt c k⟩ : Dev nD) = dst c (k.cast trips1) := Fin.ext (k0_dev1_eq c k)
/-- The device trip `k` of the send loop names. -/
theorem send_dev (c : Dev nD) (k : Fin k0_t2_loop.trips) :
    (⟨k0_dev2 c k, k0_dev2_lt c k⟩ : Dev nD) = dst c (k.cast trips2) := Fin.ext (k0_dev2_eq c k)

/-! ## The semaphores -/

/-- The barrier semaphore, shared by everyone and never reset by a launch. -/
abbrev barS : Sem sig := (SemArray.scalar (sig.barrier 0 rfl) : Sems sig S_).sem
/-- The semaphore counting that transfer `k` has left. -/
def sendS (k : Fin 31) : DmaSem sig := (⟨4 + k.val, by have := k.isLt; omega⟩ : Fin 66)
/-- The semaphore counting that transfer `k` has arrived. -/
def recvS (k : Fin 31) : DmaSem sig := (⟨35 + k.val, by have := k.isLt; omega⟩ : Fin 66)

/-- The send semaphore trip `k` of the send loop names. -/
theorem sendS_eq (k : Fin k0_t2_loop.trips) :
    ((((cc0_scratch1 : DmaSems sig S31).slice (Rect.unit (s := S31) (k0_off1 k) S1.size (k0_off1_inb k))).squeeze S_ squeezes_S1_S_ : DmaSems sig S_)).sem
      = sendS (k.cast trips2) := by
  revert k; decide +kernel
/-- The receive semaphore trip `k` of the send loop names. -/
theorem recvS_eq (k : Fin k0_t2_loop.trips) :
    ((((cc0_scratch2 : DmaSems sig S31).slice (Rect.unit (s := S31) (k0_off1 k) S1.size (k0_off1_inb k))).squeeze S_ squeezes_S1_S_ : DmaSems sig S_)).sem
      = recvS (k.cast trips2) := by
  revert k; decide +kernel
/-- The receive semaphore trip `k` of the first waiting loop names. -/
theorem recvS_eq' (k : Fin k0_t3_loop.trips) :
    ((((cc0_scratch2 : DmaSems sig S31).slice (Rect.unit (s := S31) (k0_off3 k) S1.size (k0_off3_inb k))).squeeze S_ squeezes_S1_S_ : DmaSems sig S_)).sem
      = recvS (k.cast trips3) := by
  revert k; decide +kernel
/-- The send semaphore trip `k` of the second waiting loop names. -/
theorem sendS_eq' (k : Fin k0_t4_loop.trips) :
    ((((cc0_scratch1 : DmaSems sig S31).slice (Rect.unit (s := S31) (k0_off5 k) S1.size (k0_off5_inb k))).squeeze S_ squeezes_S1_S_ : DmaSems sig S_)).sem
      = sendS (k.cast trips4) := by
  revert k; decide +kernel

/-- The kernel's own semaphores: `(false, k)` the send and `(true, k)` the receive semaphore of distance `k`. -/
def osem : Bool × Fin 31 → SemLoc sig := fun i => if i.1 then .dma (recvS i.2) else .dma (sendS i.2)
/-- All of the protocol's semaphores on one device: `none` the barrier. -/
def csem : Option (Bool × Fin 31) → SemLoc sig := fun | none => .reg barS | some i => osem i

theorem recv_sub_lt (s : Fin 66) : s.val - 35 < 31 := by have := s.isLt; omega

/-- Which semaphore of the protocol a semaphore is, if any. -/
def kindOf : SemLoc sig → Option (Option (Bool × Fin 31))
  | .reg s => if s = barS then some none else none
  | .dma s => if h : 4 ≤ (s : Fin 66).val ∧ (s : Fin 66).val < 35 then some (some (false, ⟨(s : Fin 66).val - 4, by omega⟩))
      else if h : 35 ≤ (s : Fin 66).val then some (some (true, ⟨(s : Fin 66).val - 35, recv_sub_lt s⟩)) else none

theorem kind_bar : kindOf (.reg barS) = some none := by
  show (if barS = barS then some none else none) = some none
  exact if_pos rfl
theorem kind_send (k : Fin 31) : kindOf (.dma (sendS k)) = some (some (false, k)) := by revert k; decide
theorem kind_recv (k : Fin 31) : kindOf (.dma (recvS k)) = some (some (true, k)) := by revert k; decide
theorem kind_csem (i : Option (Bool × Fin 31)) : kindOf (csem i) = some i := by
  rcases i with _ | ⟨_ | _, k⟩
  · exact kind_bar
  · exact kind_send k
  · exact kind_recv k

theorem csem_injective : Function.Injective csem := fun i j h => by
  have := congrArg kindOf h
  rw [kind_csem, kind_csem] at this
  exact Option.some.inj this

theorem osem_injective : Function.Injective osem := fun i j h =>
  Option.some.inj (csem_injective (show csem (some i) = csem (some j) from h))

/-- A device's cells. -/
abbrev barCell (c : Dev nD) : GSem nD τ sig := ((c : Thread nD τ), .reg barS)
abbrev sendCell (c : Dev nD) (k : Fin 31) : GSem nD τ sig := ((c : Thread nD τ), .dma (sendS k))
abbrev recvCell (c : Dev nD) (k : Fin 31) : GSem nD τ sig := ((c : Thread nD τ), .dma (recvS k))
abbrev kcell (i : Dev nD × Option (Bool × Fin 31)) : GSem nD τ sig := ((i.1 : Thread nD τ), csem i.2)

theorem kcell_injective : Function.Injective (kcell : Dev nD × Option (Bool × Fin 31) → GSem nD τ sig) := by
  rintro ⟨c, i⟩ ⟨c', i'⟩ h
  have h1 : c = c' := congrArg (fun g : GSem nD τ sig => g.1.1) h
  have h2 : i = i' := csem_injective (congrArg Prod.snd h)
  rw [h1, h2]

theorem bar_eq_iff {a b : Dev nD} : barCell a = barCell b ↔ a = b :=
  ⟨fun h => congrArg (fun g : GSem nD τ sig => g.1.1) h, fun h => h ▸ rfl⟩
theorem recv_eq_iff {a b : Dev nD} {j k : Fin 31} : recvCell a j = recvCell b k ↔ a = b ∧ j = k := by
  constructor
  · intro h
    have h' := kcell_injective (show kcell (a, some (true, j)) = kcell (b, some (true, k)) from h)
    exact ⟨congrArg Prod.fst h', congrArg Prod.snd (Option.some.inj (congrArg Prod.snd h'))⟩
  · rintro ⟨rfl, rfl⟩; rfl
theorem recv_ne_bar (a b : Dev nD) (k : Fin 31) : recvCell a k ≠ barCell b := fun h => by cases congrArg Prod.snd h

/-! ## The slots of the communication buffer -/

/-- The communication buffer, whole. -/
abbrev commM : Memref sig .tc .vmem S32x16x512 .bf16 := Memref.whole cc0_scratch0

theorem slot_inb (j : Fin 32) : ∀ a, (![j.val, 0, 0] : Fin 3 → Nat) a + S1x16x512.size a ≤ S32x16x512.size a := by
  revert j; decide

/-- Slot `j`, as a rectangle of the buffer. -/
abbrev slotR (j : Fin 32) : Rect S32x16x512 := Rect.unit (s := S32x16x512) ![j.val, 0, 0] S1x16x512.size (slot_inb j)
/-- Slot `j`, as the 16 × 512 block the transfers name. -/
abbrev slotM (j : Fin 32) : Memref sig .tc .vmem S16x512 .bf16 :=
  ((commM : Memref sig .tc .vmem S32x16x512 .bf16).slice (slotR j) (fun _ => rfl)).squeeze S16x512 squeezes_S1x16x512_S16x512
/-- The elements of slot `j`. -/
abbrev slotSet (j : Fin 32) : Finset (cc0_scratch0 : Ref sig .tc).ty.Idx := (slotM j).view.set

/-- What one transfer adds to the semaphores it credits. -/
def N : ℕ := (slotM 0).view.dmaCredit
theorem N_pos : 0 < N := View.dmaCredit_pos _ (by decide)

/-- An element is in slot `j` when its first coordinate is `j`. -/
theorem mem_slotSet (j : Fin 32) (i : (cc0_scratch0 : Ref sig .tc).ty.Idx) : i ∈ slotSet j ↔ (i (0 : Fin 3)).val = j.val := by
  have h : slotSet j = (slotR j).set := by
    exact (View.set_reshape (((commM : Memref sig .tc .vmem S32x16x512 .bf16).slice (slotR j) (fun _ => rfl)).view) _).trans (View.set_slice_whole _ _)
  rw [h, Rect.mem_set_unit]
  constructor
  · intro h
    have h0 := h (0 : Fin 3)
    have e1 : (![j.val, 0, 0] : Fin 3 → Nat) 0 = j.val := rfl
    have e2 : S1x16x512.size 0 = 1 := rfl
    rw [e1, e2] at h0
    omega
  · intro h a
    have h1 : (i (1 : Fin 3)).val < 16 := (i (1 : Fin 3)).isLt
    have h2 : (i (2 : Fin 3)).val < 512 := (i (2 : Fin 3)).isLt
    fin_cases a
    · show j.val ≤ (i (0 : Fin 3)).val ∧ (i (0 : Fin 3)).val < j.val + 1
      omega
    · exact ⟨Nat.zero_le _, by show (i (1 : Fin 3)).val < 0 + 16; omega⟩
    · exact ⟨Nat.zero_le _, by show (i (2 : Fin 3)).val < 0 + 512; omega⟩

/-- Distinct slots do not meet. -/
theorem slot_disjoint (j k : Fin 32) (h : j ≠ k) : Disjoint (slotSet j) (slotSet k) := by
  rw [Finset.disjoint_left]
  intro i hj hk
  rw [mem_slotSet] at hj hk
  exact h (Fin.ext (hj.symm.trans hk))

/-- The thirty-two slots fill the buffer. -/
theorem slot_cover : ((Finset.univ : Finset (Fin 32)).biUnion slotSet) = Finset.univ := by
  ext i
  simp only [Finset.mem_biUnion, Finset.mem_univ, true_and, iff_true]
  exact ⟨⟨(i (0 : Fin 3)).val, (i (0 : Fin 3)).isLt⟩, (mem_slotSet _ i).mpr rfl⟩

/-- Where an element of the block stands in slot `j`: first coordinate `j`, the rest those of slot `0`. -/
theorem slot_emb (j k : Fin 32) (x : S16x512.Idx) (a : Fin 3) (ha : a ≠ 0) :
    ((slotM j).view.emb x a).val = ((slotM k).view.emb x a).val := by
  show ((slotR j).emb (Shape.reshapeEquiv _ x) a).val = ((slotR k).emb (Shape.reshapeEquiv _ x) a).val
  simp only [Rect.emb_apply]
  fin_cases a
  · exact absurd rfl ha
  · rfl
  · rfl

theorem slot_emb_zero (j : Fin 32) (x : S16x512.Idx) : ((slotM j).view.emb x (0 : Fin 3)).val = j.val :=
  (mem_slotSet j _).mp (View.emb_mem_set _ _)

/-- The slot trip `k` of the send loop names is slot `k + 1`. -/
theorem slot_send (k : Fin k0_t2_loop.trips) :
    ((commM.slice (Rect.unit (s := S32x16x512) (k0_off2 k) S1x16x512.size (k0_off2_inb k)) (fun _ => rfl)).squeeze S16x512 squeezes_S1x16x512_S16x512)
      = slotM (k.cast trips2).succ := by
  have h := k0_off2_eq k
  have e : ∀ (o : Fin 3 → Nat) (hi), o = ![k.val + 1, 0, 0] →
    ((commM.slice (Rect.unit (s := S32x16x512) o S1x16x512.size hi) (fun _ => rfl)).squeeze S16x512 squeezes_S1x16x512_S16x512)
      = slotM (k.cast trips2).succ := by
    rintro o hi rfl; rfl
  exact e _ _ h

/-- The slot trip `k` of the first waiting loop names is slot `k + 1`. -/
theorem slot_recv (k : Fin k0_t3_loop.trips) :
    ((commM.slice (Rect.unit (s := S32x16x512) (k0_off4 k) S1x16x512.size (k0_off4_inb k)) (fun _ => rfl)).squeeze S16x512 squeezes_S1x16x512_S16x512)
      = slotM (k.cast trips3).succ := by
  have h := k0_off4_eq k
  have e : ∀ (o : Fin 3 → Nat) (hi), o = ![k.val + 1, 0, 0] →
    ((commM.slice (Rect.unit (s := S32x16x512) o S1x16x512.size hi) (fun _ => rfl)).squeeze S16x512 squeezes_S1x16x512_S16x512)
      = slotM (k.cast trips3).succ := by
    rintro o hi rfl; rfl
  exact e _ _ h

/-- The slot trip `k` of the second waiting loop names is slot `k + 1`. -/
theorem slot_sent (k : Fin k0_t4_loop.trips) :
    ((commM.slice (Rect.unit (s := S32x16x512) (k0_off6 k) S1x16x512.size (k0_off6_inb k)) (fun _ => rfl)).squeeze S16x512 squeezes_S1x16x512_S16x512)
      = slotM (k.cast trips4).succ := by
  have h := k0_off6_eq k
  have e : ∀ (o : Fin 3 → Nat) (hi), o = ![k.val + 1, 0, 0] →
    ((commM.slice (Rect.unit (s := S32x16x512) o S1x16x512.size hi) (fun _ => rfl)).squeeze S16x512 squeezes_S1x16x512_S16x512)
      = slotM (k.cast trips4).succ := by
    rintro o hi rfl; rfl
  exact e _ _ h

/-- Any slot's transfer adds the same. -/
theorem credit_slot (j : Fin 32) : (slotM j).view.dmaCredit = N := rfl

end Cert.Moe

end
-- ==== Proof.Sched.lean ====
/-
# The protocol of the dispatch kernel

Every device hands its slots 1 … 31 away with its barrier signals: with the signal over distance `k + 1` the receiver
gets the slot it will later send into, which is slot `31 - k` of the signaller. After its barrier wait a device holds
the thirty-one foreign slots it sends to. A landed block sits in the receiver's slot and is handed over by the receive
semaphore; the source slot is lent to the thirty-one transfers in thirty-one read shares that come back with the send
semaphores.

This module states what every buffer holds, the schedule of the cells, what a device owes, and the ghost state a
device starts from.
-/
module

public import proofs.«01_k».proof.Proof.Cells
public import Idealize.ShloMosaic.Lib.Rounds
public import Idealize.ShloMosaic.Lib.Transfers
public import Idealize.ShloMosaic.Lib.Ring
public import Idealize.ShloMosaic.Lib.ValueIdxCore

@[expose] public section

set_option backward.proofsInPublic true

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-! ## The resource algebra: the staging's copy beside the protocol's, whose duties are the thirty-one distances -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## What a device computes -/

/-- The word the kernel takes for its own position. -/
def myWord (c : Dev nD) : BitVec 32 := Scalar.remsi (Scalar.divsi (Dev.word c) 1#32) 32#32
/-- Column numbers of the two gates. -/
def cols16 : IVec S512x16 32 := iota .tc S512x16 32 [1] iota_S512x16_d1_w32
def cols512 : IVec S512x512 32 := iota .tc S512x512 32 [1] iota_S512x512_d1_w32

/-- The gate of a device's own sixteen capacity rows: which token goes to which row. -/
def mineGate (w : BitVec 32) (ids : Vec F S512x1 .i32) : FVec F S512x16 .f32 :=
  k0_pay10 w (k0_pay2 ids) (k0_pay3 ids) (k0_pay7 k0_pay4 k0_pay5 k0_pay6) (k0_pay8 cols16) (k0_pay9 cols16) 4#32 0#32
/-- The gate of all 512 capacity rows, in the order of the slots. -/
def allGate (w : BitVec 32) (ids : Vec F S512x1 .i32) : FVec F S512x512 .bf16 :=
  k0_pay17 w (k0_pay2 ids) (k0_pay3 ids) (k0_pay14 k0_pay12 k0_pay13) (k0_pay15 cols512) (k0_pay16 cols512) 4#32 (Scalar.cmpi .eq 4#32 0#32)
/-- A device's own block: its experts applied to the tokens its gate gathers. -/
def block (w : BitVec 32) (ids : Vec F S512x1 .i32) (x : Vec F S512x256 .f32) (wt : Vec F S4x256x512 .f32) : FVec F S1x16x512 .bf16 :=
  k0_pay11 (mineGate w ids) x wt

/-! ## Contents -/

/-- The tokens as staged on device `c`. -/
def stgX (c : Dev nD) : (cc0_stg0_0 : Ref sig .tc).ty.Contents (Elt F) :=
  (win0_0.blk (0 : Fin 1)).view.read (Elt F) ((s₀ m ρ).mem ((c : Thread nD τ).loc main_arg0))
/-- The tokens' expert numbers as staged on device `c`. -/
def stgI (c : Dev nD) : (cc0_stg1_0 : Ref sig .tc).ty.Contents (Elt F) :=
  (win0_1.blk (0 : Fin 1)).view.read (Elt F) ((s₀ m ρ).mem ((c : Thread nD τ).loc main_arg2))
/-- The device's experts as staged. -/
def stgW (c : Dev nD) : (cc0_stg2_0 : Ref sig .tc).ty.Contents (Elt F) :=
  (win0_2.blk (0 : Fin 1)).view.read (Elt F) ((s₀ m ρ).mem ((c : Thread nD τ).loc main_arg3))

/-- Device `c`'s block. -/
def blockOf (c : Dev nD) : FVec F S1x16x512 .bf16 := block (myWord c) (stgI m ρ c) (stgX m ρ c) (stgW m ρ c)

/-- The device whose block ends in slot `j` of device `c`: `j` places before it. -/
def origin (c : Dev nD) (j : Fin 32) : Dev nD := ⟨(c.val + 32 - j.val) % 32, Nat.mod_lt _ (by decide)⟩

theorem origin_zero (c : Dev nD) : origin c 0 = c := by
  have hc : c.val < 32 := c.isLt
  refine Fin.ext ?_
  show (c.val + 32 - 0) % 32 = c.val
  omega
theorem origin_dst (c : Dev nD) (k : Fin 31) : origin (dst c k) k.succ = c := by
  have hc : c.val < 32 := c.isLt
  have hk := k.isLt
  refine Fin.ext ?_
  simp only [origin, dst, Fin.val_succ]
  omega

/-- What the whole communication buffer of device `c` holds when every transfer has landed. -/
def commAll (c : Dev nD) : (cc0_scratch0 : Ref sig .tc).ty.Contents (Elt F) :=
  fun i => blockOf m ρ (origin c (i (0 : Fin 3))) (ValueIdx.ix3 (0 : Fin 1) (i (1 : Fin 3)) (i (2 : Fin 3)))

/-- The kernel's result on device `c`. -/
def outAt (c : Dev nD) : (cc0_stg3_0 : Ref sig .tc).ty.Contents (Elt F) := k0_pay1 (allGate (myWord c) (stgI m ρ c)) (commAll m ρ c)

/-- Slot `j` of device `c`, held at share `q` with contents `f`. -/
def slotPts (c : Dev nD) (j : Fin 32) (q : PosShare TreeShare) (f : Buf (Elt F) ((c : Thread nD τ).loc cc0_scratch0)) : sProp 𝕄 :=
  ((c : Thread nD τ).loc cc0_scratch0) ↦[slotSet j]{q} f

omit [FloatOps F] in
instance slotPts_storable (c : Dev nD) (j q f) : BI.Storable (upEmb : UEmb _ 𝕄) (slotPts (F := F) c j q f) := by unfold slotPts; infer_instance

/-- What lands in slot `k + 1` of the device `k + 1` places on is the sender's slot `0`. -/
theorem landed_eq (c : Dev nD) (k : Fin 31) (fd : Buf (Elt F) ((dst c k : Thread nD τ).loc cc0_scratch0))
    (i : (cc0_scratch0 : Ref sig .tc).ty.Idx) (hi : i ∈ slotSet k.succ) :
    (slotM k.succ).view.write (Elt F) fd ((slotM 0).view.read (Elt F) (commAll m ρ c)) Finset.univ i = commAll m ρ (dst c k) i := by
  obtain ⟨x, -, rfl⟩ := Finset.mem_map.mp hi
  rw [View.write_emb_of_mem _ _ (Finset.mem_univ x)]
  show commAll m ρ c ((slotM 0).view.emb x) = commAll m ρ (dst c k) ((slotM k.succ).view.emb x)
  unfold commAll
  have e1 : origin c ((slotM 0).view.emb x (0 : Fin 3)) = c := by
    have h : (slotM 0).view.emb x (0 : Fin 3) = (0 : Fin 32) := Fin.ext (slot_emb_zero 0 x)
    rw [h]; exact origin_zero c
  have e2 : origin (dst c k) ((slotM k.succ).view.emb x (0 : Fin 3)) = c := by
    have h : (slotM k.succ).view.emb x (0 : Fin 3) = k.succ := Fin.ext (slot_emb_zero k.succ x)
    rw [h]; exact origin_dst c k
  have e3 : (slotM 0).view.emb x (1 : Fin 3) = (slotM k.succ).view.emb x (1 : Fin 3) := Fin.ext (slot_emb 0 k.succ x 1 (by decide))
  have e4 : (slotM 0).view.emb x (2 : Fin 3) = (slotM k.succ).view.emb x (2 : Fin 3) := Fin.ext (slot_emb 0 k.succ x 2 (by decide))
  rw [e1, e2, e3, e4]

/-! ## The schedule -/

/-- What the signal over distance `d + 1` brings to device `c`: the slot of the signaller's that `c` will send into. The
    signaller is the device `31 - d` places on, over the complementary distance. -/
def barPay (c : Dev nD) (d : Fin 31) : sProp 𝕄 := iprop(∃ f, slotPts (dst c d.rev) d.rev.succ fullShare f)
/-- What the arrival of the transfer over distance `k + 1` brings: the landed slot. -/
def recvPay (c : Dev nD) (k : Fin 31) : sProp 𝕄 := slotPts c k.succ fullShare (commAll m ρ c)
/-- What its departure gives back: a read share of the source slot. -/
def sendPay (c : Dev nD) (k : Fin 31) : sProp 𝕄 := slotPts c 0 (shareTok fullShare 31 k) (commAll m ρ c)

omit [FloatOps F] in
instance barPay_storable (c : Dev nD) (d) : BI.Storable (upEmb : UEmb _ 𝕄) (barPay (F := F) c d) := by unfold barPay; infer_instance
instance recvPay_storable (c : Dev nD) (k) : BI.Storable (upEmb : UEmb _ 𝕄) (recvPay (F := F) m ρ c k) := by unfold recvPay; infer_instance
instance sendPay_storable (c : Dev nD) (k) : BI.Storable (upEmb : UEmb _ 𝕄) (sendPay (F := F) m ρ c k) := by unfold sendPay; infer_instance

/-- The duties of a cell's round, by its kind: the barrier has the thirty-one signals, a transfer's cell the transfer. -/
def dutiesOf : Option (Option (Bool × Fin 31)) → Finset (Fin 31)
  | some none => Finset.univ
  | some (some _) => {0}
  | none => ∅
/-- What a duty pays: a signal one unit, a transfer its credit. -/
def amountOf' : Option (Option (Bool × Fin 31)) → ℕ
  | some none => 1
  | _ => N
/-- What a duty hands over. -/
def payOf (c : Dev nD) : Option (Option (Bool × Fin 31)) → Fin 31 → sProp 𝕄
  | some none, d => barPay c d
  | some (some (false, k)), _ => sendPay m ρ c k
  | some (some (true, k)), _ => recvPay m ρ c k
  | none, _ => iprop(emp)

/-- One round, round 0, on the cells of the protocol. -/
def Rd : Rounds.Schedule (GSem nD τ sig) (Fin 31) 𝕄 where
  duties g r := if r = 0 ∧ g.1.2 = .tc then dutiesOf (kindOf g.2) else ∅
  unitless _ := False
  amount g _ _ := amountOf' (kindOf g.2)
  payload g _ d := payOf m ρ g.1.1 (kindOf g.2) d
  amount_pos g _ _ _ := by
    show 0 < amountOf' (kindOf g.2)
    rcases kindOf g.2 with _ | _ | _
    · exact N_pos
    · exact Nat.one_pos
    · exact N_pos

instance Rd_payload_storable (g : GSem nD τ sig) (r : ℕ) (d : Fin 31) :
    BI.Storable (upEmb : UEmb _ 𝕄) ((Rd (F := F) m ρ).payload g r d) := by
  show BI.Storable upEmb (payOf m ρ g.1.1 (kindOf g.2) d)
  rcases kindOf g.2 with _ | _ | ⟨_ | _, k⟩
  · show BI.Storable upEmb (iprop(emp) : sProp 𝕄); infer_instance
  · show BI.Storable upEmb (barPay g.1.1 d : sProp 𝕄); infer_instance
  · show BI.Storable upEmb (sendPay m ρ g.1.1 k : sProp 𝕄); infer_instance
  · show BI.Storable upEmb (recvPay m ρ g.1.1 k : sProp 𝕄); infer_instance

section Sched
variable (c : Dev nD) (k : Fin 31)

theorem duties_cell (i : Option (Bool × Fin 31)) : (Rd (F := F) m ρ).duties (kcell (c, i)) 0 = dutiesOf (some i) := by
  show (if (0 : ℕ) = 0 ∧ (c : Thread nD τ).2 = .tc then dutiesOf (kindOf (csem i)) else ∅) = _
  rw [if_pos ⟨rfl, rfl⟩, kind_csem]
theorem amount_cell (i : Option (Bool × Fin 31)) (d : Fin 31) : (Rd (F := F) m ρ).amount (kcell (c, i)) 0 d = amountOf' (some i) := by
  show amountOf' (kindOf (csem i)) = _
  rw [kind_csem]
theorem payload_cell (i : Option (Bool × Fin 31)) (d : Fin 31) : (Rd (F := F) m ρ).payload (kcell (c, i)) 0 d = payOf m ρ c (some i) d := by
  show payOf m ρ c (kindOf (csem i)) d = _
  rw [kind_csem]

theorem duties_bar : (Rd (F := F) m ρ).duties (barCell c) 0 = Finset.univ := duties_cell m ρ c none
theorem duties_send : (Rd (F := F) m ρ).duties (sendCell c k) 0 = {0} := duties_cell m ρ c (some (false, k))
theorem duties_recv : (Rd (F := F) m ρ).duties (recvCell c k) 0 = {0} := duties_cell m ρ c (some (true, k))
theorem duties_later (g : GSem nD τ sig) : ∀ r, 1 ≤ r → (Rd (F := F) m ρ).duties g r = ∅ :=
  fun r hr => if_neg fun h => by omega

theorem amount_bar (d : Fin 31) : (Rd (F := F) m ρ).amount (barCell c) 0 d = 1 := amount_cell m ρ c none d
theorem amount_send (d : Fin 31) : (Rd (F := F) m ρ).amount (sendCell c k) 0 d = N := amount_cell m ρ c (some (false, k)) d
theorem amount_recv (d : Fin 31) : (Rd (F := F) m ρ).amount (recvCell c k) 0 d = N := amount_cell m ρ c (some (true, k)) d

theorem expect_bar : (Rd (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c k) 0 = N := by
  unfold Schedule.expect Schedule.amountOf; rw [duties_send, Finset.sum_singleton, amount_send]
theorem expect_recv : (Rd (F := F) m ρ).expect (recvCell c k) 0 = N := by
  unfold Schedule.expect Schedule.amountOf; rw [duties_recv, Finset.sum_singleton, amount_recv]

theorem payload_bar (d : Fin 31) : (Rd (F := F) m ρ).payload (barCell c) 0 d = barPay c d := payload_cell m ρ c none d
theorem payload_send (d : Fin 31) : (Rd (F := F) m ρ).payload (sendCell c k) 0 d = sendPay m ρ c k := payload_cell m ρ c (some (false, k)) d
theorem payload_recv (d : Fin 31) : (Rd (F := F) m ρ).payload (recvCell c k) 0 d = recvPay m ρ c k := payload_cell m ρ c (some (true, k)) d

/-- What a device's barrier wait brings it: a slot of every other device. -/
theorem rest_bar : bigSep ((Rd (F := F) m ρ).duties (barCell c) 0 \ ∅) (fun d => (Rd (F := F) m ρ).payload (barCell c) 0 d)
    = bigSep Finset.univ (fun d => barPay c d) := by
  rw [Finset.sdiff_empty, duties_bar]
  exact congrArg _ (funext fun d => payload_bar m ρ c d)
/-- What a departure wait brings back. -/
theorem rest_send : bigSep ((Rd (F := F) m ρ).duties (sendCell c k) 0 \ ∅) (fun d => (Rd (F := F) m ρ).payload (sendCell c k) 0 d) = sendPay m ρ c k := by
  rw [Finset.sdiff_empty, duties_send, bigSep_singleton, payload_send]
/-- What an arrival wait brings. -/
theorem rest_recv : bigSep ((Rd (F := F) m ρ).duties (recvCell c k) 0 \ ∅) (fun d => (Rd (F := F) m ρ).payload (recvCell c k) 0 d) = recvPay m ρ c k := by
  rw [Finset.sdiff_empty, duties_recv, bigSep_singleton, payload_recv]

end Sched

/-! ## Distances still to do and done -/

/-- The distances from `k` on. -/
def todo (k : ℕ) : Finset (Fin 31) := Finset.univ.filter fun j => k ≤ j.val
/-- The distances before `k`. -/
def done (k : ℕ) : Finset (Fin 31) := Finset.univ.filter fun j => j.val < k

theorem todo_zero : todo 0 = Finset.univ := Finset.filter_true_of_mem fun _ _ => Nat.zero_le _
theorem done_zero : done 0 = ∅ := Finset.filter_false_of_mem fun _ _ => Nat.not_lt_zero _
theorem todo_end : todo 31 = ∅ := Finset.filter_false_of_mem fun j _ => by have := j.isLt; omega
theorem done_end : done 31 = Finset.univ := Finset.filter_true_of_mem fun j _ => j.isLt
theorem todo_step (k : Fin 31) : todo k.val = insert k (todo (k.val + 1)) := by
  ext j
  simp only [todo, Finset.mem_filter, Finset.mem_univ, true_and, Finset.mem_insert]
  constructor
  · intro h
    rcases Nat.eq_or_lt_of_le h with h | h
    · exact .inl (Fin.ext h.symm)
    · exact .inr h
  · rintro (rfl | h)
    · exact le_rfl
    · omega
theorem done_step (k : Fin 31) : done (k.val + 1) = insert k (done k.val) := by
  ext j
  simp only [done, Finset.mem_filter, Finset.mem_univ, true_and, Finset.mem_insert]
  constructor
  · intro h
    rcases Nat.eq_or_lt_of_le (Nat.lt_succ_iff.mp h) with h | h
    · exact .inl (Fin.ext h)
    · exact .inr h
  · rintro (rfl | h)
    · exact Nat.lt_succ_self _
    · omega
theorem notMem_todo (k : Fin 31) : k ∉ todo (k.val + 1) := by
  simp only [todo, Finset.mem_filter, Finset.mem_univ, true_and]; omega
theorem notMem_done (k : Fin 31) : k ∉ done k.val := by
  simp only [done, Finset.mem_filter, Finset.mem_univ, true_and]; omega

omit [FloatOps F] in
/-- The next distance is peeled off what is to do. -/
theorem peel (k : Fin 31) (P : Fin 31 → sProp 𝕄) : bigSep (todo k.val) P = iprop(P k ∗ bigSep (todo (k.val + 1)) P) := by
  rw [todo_step, bigSep_insert (notMem_todo k)]; rfl
omit [FloatOps F] in
/-- The distance just gone through joins what is done. -/
theorem stack (k : Fin 31) (P : Fin 31 → sProp 𝕄) : bigSep (done (k.val + 1)) P = iprop(P k ∗ bigSep (done k.val) P) := by
  rw [done_step, bigSep_insert (notMem_done k)]; rfl

/-! ## What each device owes at launch; the levels -/

/-- The transfers from distance `k` on: their credits to the receivers. -/
def recvOwe (c : Dev nD) (k : ℕ) : CellTallies nD τ sig Unit := ∑ j ∈ todo k, tallyAt (recvCell (dst c j) j) () N
/-- The signals from distance `k` on. -/
def barOwe (c : Dev nD) (k : ℕ) : CellTallies nD τ sig Unit := ∑ j ∈ todo k, tallyAt (barCell (dst c j)) () 1
/-- What a device owes at launch: every transfer and every signal. -/
def O₀ (c : Dev nD) : CellTallies nD τ sig Unit := recvOwe c 0 + barOwe c 0

theorem recvOwe_step (c : Dev nD) (k : Fin 31) : recvOwe c k.val = recvOwe c (k.val + 1) + tallyAt (recvCell (dst c k) k) () N := by
  unfold recvOwe; rw [todo_step, Finset.sum_insert (notMem_todo k), add_comm]
theorem barOwe_step (c : Dev nD) (k : Fin 31) : barOwe c k.val = barOwe c (k.val + 1) + tallyAt (barCell (dst c k)) () 1 := by
  unfold barOwe; rw [todo_step, Finset.sum_insert (notMem_todo k), add_comm]
theorem recvOwe_end (c : Dev nD) : recvOwe c 31 = 0 := by unfold recvOwe; rw [todo_end]; rfl
theorem barOwe_end (c : Dev nD) : barOwe c 31 = 0 := by unfold barOwe; rw [todo_end]; rfl

/-- The one index of each core's levels. -/
def L (g : GSem nD τ sig) : Finset Unit := if g.1.2 = .tc then {()} else ∅
/-- Barriers below arrivals; everything else below both. -/
def lvOf : Option (Option (Bool × Fin 31)) → ℕ
  | some none => 1
  | some (some (true, _)) => 2
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by show lvOf (kindOf (.reg barS)) = 1; rw [kind_bar]; rfl
theorem lv_recv (c : Dev nD) (k : Fin 31) (u : Unit) : lv (recvCell c k) u = 2 := by show lvOf (kindOf (.dma (recvS k))) = 2; rw [kind_recv]; rfl

theorem recvOwe_apply (c : Dev nD) (k : ℕ) (g : GSem nD τ sig) (u : Unit) :
    recvOwe c k g u = ∑ j ∈ todo k, tallyAt (recvCell (dst c j) j) () N g u := by
  unfold recvOwe; rw [Finset.sum_apply, Finsupp.finset_sum_apply]
theorem barOwe_apply (c : Dev nD) (k : ℕ) (g : GSem nD τ sig) (u : Unit) :
    barOwe c k g u = ∑ j ∈ todo k, tallyAt (barCell (dst c j)) () 1 g u := by
  unfold barOwe; rw [Finset.sum_apply, Finsupp.finset_sum_apply]

/-- What is owed of transfers is owed to receive cells. -/
theorem recvOwe_pos {c : Dev nD} {k : ℕ} {g : GSem nD τ sig} {u : Unit} (h : 0 < recvOwe c k g u) : ∃ j, g = recvCell (dst c j) j := by
  rw [recvOwe_apply] at h
  obtain ⟨j, -, hj⟩ := Finset.exists_ne_zero_of_sum_ne_zero (Nat.pos_iff_ne_zero.mp h)
  refine ⟨j, ?_⟩
  by_contra hn
  rw [tallyAt_apply, if_neg (fun h' => hn h'.1)] at hj
  exact hj rfl
/-- What is owed of signals is owed to barrier cells. -/
theorem barOwe_pos {c : Dev nD} {k : ℕ} {g : GSem nD τ sig} {u : Unit} (h : 0 < barOwe c k g u) : ∃ j, g = barCell (dst c j) := by
  rw [barOwe_apply] at h
  obtain ⟨j, -, hj⟩ := Finset.exists_ne_zero_of_sum_ne_zero (Nat.pos_iff_ne_zero.mp h)
  refine ⟨j, ?_⟩
  by_contra hn
  rw [tallyAt_apply, if_neg (fun h' => hn h'.1)] at hj
  exact hj rfl
theorem O₀_pos {c : Dev nD} {g : GSem nD τ sig} {u : Unit} (h : 0 < O₀ c g u) : (∃ d j, g = recvCell d j) ∨ ∃ d, g = barCell d := by
  unfold O₀ at h
  rw [Pi.add_apply, Finsupp.add_apply] at h
  rcases Nat.eq_zero_or_pos (recvOwe c 0 g u) with h0 | h0
  · rw [h0, Nat.zero_add] at h
    obtain ⟨j, hj⟩ := barOwe_pos h
    exact .inr ⟨_, hj⟩
  · obtain ⟨j, hj⟩ := recvOwe_pos h0
    exact .inl ⟨_, j, hj⟩

omit [FloatOps F] in
/-- A staging wait is below everything owed. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, _, rfl⟩ | ⟨_, rfl⟩ <;> exact Finset.mem_singleton_self _)
      (fun p hp => by rw [Finset.mem_singleton.mp hp]; show lvOf (kindOf (.dma q)) ≤ 0; rw [hq]; exact le_rfl)
      (fun g u hg => by
        rcases O₀_pos hg with ⟨_, _, rfl⟩ | ⟨_, rfl⟩
        · rw [lv_recv]; decide
        · rw [lv_bar]; decide)
  · rw [MayWait_zero]; iintro -; iempintro

omit [FloatOps F] in
/-- At its barrier wait a device owes transfers only: receive cells, above its barrier cell. -/
theorem mayWait_bar (c : Dev nD) : (levAts L lv : sProp 𝕄) ⊢ MayWait (c : Thread nD τ) (.reg barS) () (recvOwe c 0) :=
  MayOwe.of_cut (L := L) (lev := lv) 1 (fun p hp => by rw [Finset.mem_singleton.mp hp, L_tc]; exact Finset.mem_singleton_self _)
    (fun g u hg => by obtain ⟨j, rfl⟩ := recvOwe_pos hg; exact Finset.mem_singleton_self _)
    (fun p hp => by rw [Finset.mem_singleton.mp hp]; exact (lv_bar c ()).le)
    (fun g u hg => by obtain ⟨j, rfl⟩ := recvOwe_pos hg; rw [lv_recv]; decide)

/-! ## The ghost state of a device -/

/-- The cells of the whole mesh: their invariants and the fact that each has reached its first round. -/
def records (K : Dev nD × Option (Bool × Fin 31) → ℕ) : sProp 𝕄 :=
  iprop(bigSep Finset.univ (fun ci => cellInv ER (Rd m ρ) (K ci) (kcell ci)) ∗ bigSep Finset.univ (fun ci => reached ER (kcell ci) 0))

instance records_persistent (K : Dev nD × Option (Bool × Fin 31) → ℕ) : BI.Persistent (records m ρ K) := by unfold records; infer_instance

/-- A cell's invariant, from the records. -/
theorem records_inv (K : Dev nD × Option (Bool × Fin 31) → ℕ) (c : Dev nD) (i : Option (Bool × Fin 31)) :
    records m ρ K ⊢ cellInv ER (Rd m ρ) (K (c, i)) (kcell (c, i)) := by
  unfold records
  rw [bigSep_univ_at (fun ci => cellInv ER (Rd m ρ) (K ci) (kcell ci)) (c, i)]
  iintro ⟨⟨H, -⟩, -⟩
  iexact H
/-- A cell's round reached, from the records. -/
theorem records_reached (K : Dev nD × Option (Bool × Fin 31) → ℕ) (c : Dev nD) (i : Option (Bool × Fin 31)) :
    records m ρ K ⊢ (reached ER (kcell (c, i)) 0 : sProp 𝕄) := by
  unfold records
  rw [bigSep_univ_at (fun ci => (reached ER (kcell ci) 0 : sProp 𝕄)) (c, i)]
  iintro ⟨-, H, -⟩
  iexact H

/-- What device `c` starts from: the records, its positions at the start of its cells, the tokens of the signals and
    transfers it makes. -/
def ghost (K : Dev nD × Option (Bool × Fin 31) → ℕ) (c : Dev nD) : sProp 𝕄 :=
  iprop(records m ρ K
    ∗ atPos ER (barCell c) 0 ∅ 0
    ∗ bigSep Finset.univ (fun k => atPos ER (sendCell c k) 0 ∅ 0)
    ∗ bigSep Finset.univ (fun k => atPos ER (recvCell c k) 0 ∅ 0)
    ∗ bigSep Finset.univ (fun k => dutyTok ER (barCell (dst c k)) 0 k)
    ∗ bigSep Finset.univ (fun k => dutyTok ER (recvCell (dst c k) k) 0 (0 : Fin 31))
    ∗ bigSep Finset.univ (fun k => dutyTok ER (sendCell c k) 0 (0 : Fin 31)))

/-- That at some names, with the credit of its barrier and of its arrivals, and the level facts. -/
def start (c : Dev nD) : sProp 𝕄 :=
  iprop((∃ K, ghost m ρ K c) ∗ cred (tallyAt (barCell c) () 31) ∗ bigSep Finset.univ (fun k => cred (tallyAt (recvCell c k) () N)) ∗ levAts L lv)

/-- The communication buffer, whole. -/
def scrPts (c : Dev nD) (f : Buf (Elt F) ((c : Thread nD τ).loc cc0_scratch0)) : sProp 𝕄 := ((c : Thread nD τ).loc cc0_scratch0) ↦{fullShare} f

omit [FloatOps F] in
/-- The buffer whole is its thirty-two slots. -/
theorem scr_slots (c : Dev nD) (f : Buf (Elt F) ((c : Thread nD τ).loc cc0_scratch0)) :
    scrPts c f = (iprop(slotPts c 0 fullShare f ∗ bigSep Finset.univ (fun k : Fin 31 => slotPts c k.succ fullShare f)) : sProp 𝕄) := by
  unfold scrPts
  rw [Ring.pointsTo_blocks slotSet slot_disjoint slot_cover f, Fin.univ_succ, Finset.cons_eq_insert, bigSep_insert (by simp), bigSep_map]
  rfl

/-- Before the body: the ghost state and the buffer at some contents. -/
def Φ₀ (c : Dev nD) : sProp 𝕄 := iprop(start m ρ c ∗ ∃ f, scrPts c f)
/-- After it: the buffer with every block landed, and every cell closed at zero. -/
def Φ₁ (c : Dev nD) : sProp 𝕄 :=
  iprop(scrPts c (commAll m ρ c) ∗ bigSep Finset.univ (fun k => semVal (sendCell c k) 0) ∗ bigSep Finset.univ (fun k => semVal (recvCell c k) 0) ∗ semVal (barCell c) 0)

/-- The staging's proof data: what the arrays hold, what the staged buffers hold after the body, what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgX m ρ c
    | ⟨1, _⟩ => stgI m ρ c
    | ⟨2, _⟩ => stgW m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.Moe

end
-- ==== Proof.Body.lean ====
/-
# The body of the dispatch kernel, executed once for an arbitrary device

Four counted loops of thirty-one trips each: the signals, the sends, the arrival waits, the departure waits. Each has
its invariant, over the distances still to do and those done; then the body's parts in program order.
-/
module

public import proofs.«01_k».proof.Proof.Sched
public import Idealize.ShloMosaic.Lib.Scf

@[expose] public section

set_option backward.proofsInPublic true

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option (Bool × Fin 31) → ℕ)

/-! ## The buffers -/

abbrev xM : Memref sig .tc .vmem S512x256 .f32 := Memref.whole cc0_stg0_0
abbrev iM : Memref sig .tc .vmem S512x1 .i32 := Memref.whole cc0_stg1_0
abbrev wM : Memref sig .tc .vmem S4x256x512 .f32 := Memref.whole cc0_stg2_0
abbrev oM : Memref sig .tc .vmem S512x512 .f32 := Memref.whole cc0_stg3_0

theorem z2 : (![0, 0] : Fin 2 → Nat) = fun _ => 0 := funext fun a => by fin_cases a <;> rfl
theorem z3 : (![0, 0, 0] : Fin 3 → Nat) = fun _ => 0 := funext fun a => by fin_cases a <;> rfl

theorem read_x (f : (cc0_stg0_0 : Ref sig .tc).ty.Contents (Elt F)) :
    xM.view.readAt (Elt F) (Rect.unit (s := S512x256) ![0, 0] S512x256.size inb_S512x256_S512x256_0_0).toLoadRect f = f :=
  Memref.readAt_unit_zero (Elt F) cc0_stg0_0 z2 _ f
theorem read_i (f : (cc0_stg1_0 : Ref sig .tc).ty.Contents (Elt F)) :
    iM.view.readAt (Elt F) (Rect.unit (s := S512x1) ![0, 0] S512x1.size inb_S512x1_S512x1_0_0).toLoadRect f = f :=
  Memref.readAt_unit_zero (Elt F) cc0_stg1_0 z2 _ f
theorem read_w (f : (cc0_stg2_0 : Ref sig .tc).ty.Contents (Elt F)) :
    wM.view.readAt (Elt F) (Rect.unit (s := S4x256x512) ![0, 0, 0] S4x256x512.size inb_S4x256x512_S4x256x512_0_0_0).toLoadRect f = f :=
  Memref.readAt_unit_zero (Elt F) cc0_stg2_0 z3 _ f
theorem read_comm (f : (cc0_scratch0 : Ref sig .tc).ty.Contents (Elt F)) :
    commM.view.readAt (Elt F) (Rect.unit (s := S32x16x512) ![0, 0, 0] S32x16x512.size inb_S32x16x512_S32x16x512_0_0_0).toLoadRect f = f :=
  Memref.readAt_unit_zero (Elt F) cc0_scratch0 z3 _ f
theorem write_out (f w : (cc0_stg3_0 : Ref sig .tc).ty.Contents (Elt F)) :
    (oM.access (Rect.unit (s := S512x512) ![0, 0] S512x512.size inb_S512x512_S512x512_0_0) : View sig .tc _ _ _).write (Elt F) f w Finset.univ = w :=
  Memref.write_access_unit_zero_univ (Elt F) cc0_stg3_0 z2 _ f w

/-! ## The signals -/

/-- The token and the slot of the signal over distance `j + 1`. -/
def sigRes (c : Dev nD) (j : Fin 31) : sProp 𝕄 :=
  iprop(dutyTok ER (barCell (dst c j)) 0 j ∗ ∃ f, slotPts c j.rev.succ fullShare f)
/-- Before trip `k` of the signal loop. -/
def sigInv (c : Dev nD) (k : ℕ) : sProp 𝕄 :=
  iprop(records m ρ K ∗ (∃ W, owes (c : Thread nD τ) (recvOwe c 0 + barOwe c k) W) ∗ bigSep (todo k) (sigRes c))

/-- One signal. -/
theorem sig_trip (c : Dev nD) (k : Fin k0_t1_loop.trips) (u : Unit) :
    sigInv m ρ K c k.val ⊢ wp frame (wpE (defs₀ (F := F)) 𝒱₀ (c : Thread nD τ) none) Set.univ
      (k0_t1_body (F := F) xM (Memref.isWhole_whole _) iM (Memref.isWhole_whole _) wM (Memref.isWhole_whole _) oM (Memref.isWhole_whole _)
        commM (Memref.isWhole_whole _) cc0_scratch1 cc0_scratch2 c (SemArray.scalar (sig.barrier 0 rfl)) k u)
      (fun _ => sigInv m ρ K c (k.val + 1)) := by
  obtain ⟨j, rfl⟩ : ∃ j : Fin 31, k = j.cast trips1.symm := ⟨k.cast trips1, rfl⟩
  unfold k0_t1_body
  simp only [semSignalWord, Prog.lift, Prog.bind_op, Prog.bind_ret, Prog.pure_eq_ret, sig_dev, Fin.cast_cast, Fin.cast_eq_self, Fin.val_cast]
  unfold sigInv
  rw [peel j, barOwe_step c j]
  unfold sigRes
  iintro ⟨#Hrec, ⟨%W, HO⟩, ⟨Ht, Hs⟩, Hrest⟩
  iapply (Rounds.wp_signal 𝒱₀ ER (Rd m ρ) (c : Thread nD τ) none (dst := (dst c j : Thread nD τ)) (κ := K (dst c j, none))
      (d := j) (by rw [duties_bar]; exact Finset.mem_univ _) ((amount_bar m ρ (dst c j) j).trans (by decide)) ()
      (recvOwe c 0 + barOwe c (j.val + 1)) (add_assoc _ _ _).symm) $$ [HO Ht Hs]
  · isplitr; · iapply (records_inv m ρ K (dst c j) none); iexact Hrec
    isplitl [HO]; · iexact HO
    isplitl [Ht]; · iexact Ht
    isplitl [Hs]
    · rw [payload_bar]; unfold barPay; rw [dst_rev]; iexact Hs
    · iapply (records_reached m ρ K (dst c j) none); iexact Hrec
  iintro HO
  rw [wp_ret]; imodintro
  isplitr; · iexact Hrec
  isplitl [HO]; · iexists W; iexact HO
  iexact Hrest

/-! ## The sends -/

/-- One transfer at the kernel's cells; the names the program gives the receiver, the slots and the semaphores are
    substituted. -/
theorem wp_send_slot (c : Dev nD) (k : Fin 31) {n : Dev nD} (hn : n = dst c k)
    {sM : Memref sig .tc .vmem S16x512 .bf16} (hsM : sM = slotM 0) {dM : Memref sig .tc .vmem S16x512 .bf16} (hdM : dM = slotM k.succ)
    {sS sR : DmaSem sig} (hsS : sS = sendS k) (hsR : sR = recvS k)
    {hsc : (dM : Memref sig (Dev.tc n : Thread nD τ).2.kind .vmem S16x512 .bf16).view.ref.isScScratch = false}
    {hsrc : sM.view.WordExact} {hdst : dM.view.WordExact}
    {hsem : DmaTarget.Typed .vmem (.dma sR) (.remote (Dev.tc n : Thread nD τ) dM (.dma sS) hsc)}
    {α : Type} {Q : α → sProp 𝕄} {kk : PUnit → Prog (TpuEff nD τ sig (Elt F) Λ₀ .tc) α}
    (fn : Buf (Elt F) ((dst c k : Thread nD τ).loc cc0_scratch0)) (W : Waits sig Unit) :
    iprop(cellInv ER (Rd m ρ) (K (c, some (false, k))) (sendCell c k) ∗ cellInv ER (Rd m ρ) (K (dst c k, some (true, k))) (recvCell (dst c k) k)
        ∗ slotPts c 0 (shareTok fullShare 31 k) (commAll m ρ c) ∗ slotPts (dst c k) k.succ fullShare fn
        ∗ owes (c : Thread nD τ) (recvOwe c k.val) W
        ∗ dutyTok ER (sendCell c k) 0 (0 : Fin 31) ∗ reached ER (sendCell c k) 0
        ∗ dutyTok ER (recvCell (dst c k) k) 0 (0 : Fin 31) ∗ reached ER (recvCell (dst c k) k) 0)
      ⊢ iprop(((cred (tallyAt (sendCell c k) () N) ∗ owes (c : Thread nD τ) (recvOwe c (k.val + 1)) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sM (.remote (Dev.tc n : Thread nD τ) dM (.dma sS) hsc) (.dma sR) hsrc hdst hsem) kk) Q) := by
  subst hn hsM hdM hsS hsR
  unfold slotPts
  exact Rounds.wp_send_pointsTo 𝒱₀ ER (Rd m ρ) (c : Thread nD τ) none (c' := (dst c k : Thread nD τ)) (src := slotM 0) (dst := slotM k.succ) (sS := .dma (sendS k)) (sem := .dma (recvS k)) (hsc := hsc) (hsrc := hsrc) (hdst := hdst) (hsem := hsem)
    (q := shareTok fullShare 31 k) (fs := commAll m ρ c) (κ₁ := K (c, some (false, k))) (κ₂ := K (dst c k, some (true, k)))
    (r₁ := 0) (r₂ := 0) (d₁ := (0 : Fin 31)) (d₂ := (0 : Fin 31)) (fd := fn)
    (by rw [duties_send]; exact Finset.mem_singleton_self _) (by rw [duties_recv]; exact Finset.mem_singleton_self _)
    () () N (show (slotM k.succ).view.amount (.dma (recvS k)) = N from credit_slot k.succ) (amount_send m ρ c k 0) (amount_recv m ρ (dst c k) k 0) (recvOwe c (k.val + 1)) (recvOwe_step c k) (W := W)
    (by rw [payload_send]; exact BI.Entails.refl _)
    (by
      rw [payload_recv]; unfold recvPay slotPts
      exact Entails.of_eq (pointsTo_congr fun i hi => landed_eq m ρ c k fn i hi))

/-- What the send over distance `j + 1` takes. -/
def sendRes (c : Dev nD) (j : Fin 31) : sProp 𝕄 :=
  iprop(slotPts c 0 (shareTok fullShare 31 j) (commAll m ρ c) ∗ (∃ f, slotPts (dst c j) j.succ fullShare f)
    ∗ dutyTok ER (sendCell c j) 0 (0 : Fin 31) ∗ dutyTok ER (recvCell (dst c j) j) 0 (0 : Fin 31))
/-- Before trip `k` of the send loop. -/
def sendInv (c : Dev nD) (k : ℕ) : sProp 𝕄 :=
  iprop(records m ρ K ∗ (∃ W, owes (c : Thread nD τ) (recvOwe c k) W) ∗ bigSep (todo k) (sendRes m ρ c)
    ∗ bigSep (done k) (fun j => cred (tallyAt (sendCell c j) () N)))

/-- One send. -/
theorem send_trip (c : Dev nD) (v2 : BitVec 32) (v3 : Sems sig S_) (v133 : FVec F S512x16 .f32) (k : Fin k0_t2_loop.trips) (u : Unit) :
    sendInv m ρ K c k.val ⊢ wp frame (wpE (defs₀ (F := F)) 𝒱₀ (c : Thread nD τ) none) Set.univ
      (k0_t2_body (F := F) xM (Memref.isWhole_whole _) iM (Memref.isWhole_whole _) wM (Memref.isWhole_whole _) oM (Memref.isWhole_whole _)
        commM (Memref.isWhole_whole _) cc0_scratch1 cc0_scratch2 c v2 v3 v133 k u)
      (fun _ => sendInv m ρ K c (k.val + 1)) := by
  obtain ⟨j, rfl⟩ : ∃ j : Fin 31, k = j.cast trips2.symm := ⟨k.cast trips2, rfl⟩
  unfold k0_t2_body
  simp only [Prog.lift, Prog.bind_op, Prog.bind_ret, Prog.pure_eq_ret]
  unfold sendInv
  simp only [Fin.val_cast]
  rw [peel j, stack j]
  unfold sendRes
  iintro ⟨#Hrec, ⟨%W, HO⟩, ⟨⟨Hsrc, ⟨%f, Hdst⟩, HtS, HtV⟩, Hrest⟩, Hdone⟩
  iapply (wp_send_slot m ρ K c j (send_dev c (j.cast trips2.symm)) rfl (slot_send (j.cast trips2.symm)) (sendS_eq (j.cast trips2.symm))
    (recvS_eq (j.cast trips2.symm)) f W) $$ [HO Hsrc Hdst HtS HtV]
  · isplitr; · iapply (records_inv m ρ K c (some (false, j))); iexact Hrec
    isplitr; · iapply (records_inv m ρ K (dst c j) (some (true, j))); iexact Hrec
    isplitl [Hsrc]; · iexact Hsrc
    isplitl [Hdst]; · iexact Hdst
    isplitl [HO]; · iexact HO
    isplitl [HtS]; · iexact HtS
    isplitr; · iapply (records_reached m ρ K c (some (false, j))); iexact Hrec
    isplitl [HtV]; · iexact HtV
    iapply (records_reached m ρ K (dst c j) (some (true, j))); iexact Hrec
  iintro ⟨Hc, HO⟩
  rw [wp_ret]; imodintro
  isplitr; · iexact Hrec
  isplitl [HO]; · iexists W; iexact HO
  isplitl [Hrest]; · iexact Hrest
  isplitl [Hc]; · iexact Hc
  iexact Hdone

/-! ## The waits -/

/-- What a wait for an arrival takes. -/
def recvRes (c : Dev nD) (j : Fin 31) : sProp 𝕄 := iprop(cred (tallyAt (recvCell c j) () N) ∗ atPos ER (recvCell c j) 0 ∅ 0)
/-- Before trip `k` of the arrival loop. -/
def recvInv (c : Dev nD) (k : ℕ) : sProp 𝕄 :=
  iprop(records m ρ K ∗ (∃ W, owes (c : Thread nD τ) 0 W) ∗ bigSep (todo k) (recvRes c)
    ∗ bigSep (done k) (fun j => iprop(recvPay m ρ c j ∗ semVal (recvCell c j) 0)))
/-- What a wait for a departure takes. -/
def leftRes (c : Dev nD) (j : Fin 31) : sProp 𝕄 := iprop(cred (tallyAt (sendCell c j) () N) ∗ atPos ER (sendCell c j) 0 ∅ 0)
/-- Before trip `k` of the departure loop. -/
def leftInv (c : Dev nD) (k : ℕ) : sProp 𝕄 :=
  iprop(records m ρ K ∗ (∃ W, owes (c : Thread nD τ) 0 W) ∗ bigSep (todo k) (leftRes c)
    ∗ bigSep (done k) (fun j => iprop(sendPay m ρ c j ∗ semVal (sendCell c j) 0)))

/-- One wait on a transfer's cell, to the cell closed; the names the program gives the semaphore and the slot are
    substituted. -/
theorem wp_wait_slot (c : Dev nD) (i : Bool × Fin 31) {q : DmaSem sig} (hq : SemLoc.dma q = osem i) {sM dM : Memref sig .tc .vmem S16x512 .bf16}
    {j : Fin 32} (hdM : dM = slotM j) {hsrc : sM.view.WordExact} {hdst : dM.view.WordExact} {P : sProp 𝕄}
    (he : (Rd m ρ).expect (kcell (c, some i)) 0 = N)
    (hP : bigSep ((Rd (F := F) m ρ).duties (kcell (c, some i)) 0 \ ∅) (fun d => (Rd (F := F) m ρ).payload (kcell (c, some i)) 0 d) = P)
    {α : Type} {Q : α → sProp 𝕄} {kk : PUnit → Prog (TpuEff nD τ sig (Elt F) Λ₀ .tc) α} (W : Waits sig Unit) :
    iprop(cellInv ER (Rd m ρ) (K (c, some i)) (kcell (c, some i)) ∗ cred (tallyAt (kcell (c, some i)) () N) ∗ owes (c : Thread nD τ) 0 W
        ∗ atPos ER (kcell (c, some i)) 0 ∅ 0)
      ⊢ iprop((((∃ W, owes (c : Thread nD τ) 0 W) ∗ P ∗ semVal (kcell (c, some i)) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q sM dM hsrc hdst) kk) Q) := by
  subst hdM hP
  have hcell : ((c : Thread nD τ), SemLoc.dma q) = kcell (c, some i) := by rw [hq]; rfl
  rw [← hcell] at he ⊢
  iintro ⟨#HI, Hc, HO, Hat⟩ Hk
  iapply (Rounds.wp_wait_rest_token 𝒱₀ ER (Rd m ρ) (c : Thread nD τ) none (κ := K (c, some i))
      (wpE_waitDma2_eq 𝒱₀ (c : Thread nD τ) none Set.univ) (Set.mem_univ _) () (O := 0) (W := W) (R := 0) (m := 0) (T := ∅)
      (by rw [Nat.zero_add, he]; exact credit_slot j)) $$ [Hc HO Hat]
  · isplitr; · iexact HI
    isplitl [Hc]; · rw [credit_slot]; iexact Hc
    isplitl [HO]; · iexact HO
    isplitr; · rw [MayWait_zero]; iempintro
    iexact Hat
  iintro ⟨HO, Hat, -, Hpay⟩
  imod (Rounds.cell_close ER (Rd m ρ) (Set.mem_univ (K (c, some i))) (fun h => h) (R := 0 + 1) (duties_later m ρ ((c : Thread nD τ), SemLoc.dma q))) $$ [Hat] with Hz
  · isplitr; · iexact HI
    iexact Hat
  iapply Hk
  isplitl [HO]; · iexists _; iexact HO
  isplitl [Hpay]; · iexact Hpay
  iexact Hz

/-- One wait for an arrival: the landed slot, and the cell closed. -/
theorem recv_trip (c : Dev nD) (k : Fin k0_t3_loop.trips) (u : Unit) :
    recvInv m ρ K c k.val ⊢ wp frame (wpE (defs₀ (F := F)) 𝒱₀ (c : Thread nD τ) none) Set.univ
      (k0_t3_body (F := F) xM (Memref.isWhole_whole _) iM (Memref.isWhole_whole _) wM (Memref.isWhole_whole _) oM (Memref.isWhole_whole _)
        commM (Memref.isWhole_whole _) cc0_scratch1 cc0_scratch2 k u)
      (fun _ => recvInv m ρ K c (k.val + 1)) := by
  obtain ⟨j, rfl⟩ : ∃ j : Fin 31, k = j.cast trips3.symm := ⟨k.cast trips3, rfl⟩
  unfold k0_t3_body
  simp only [Prog.lift, Prog.bind_op, Prog.bind_ret, Prog.pure_eq_ret]
  unfold recvInv
  simp only [Fin.val_cast]
  rw [peel j, stack j]
  unfold recvRes
  iintro ⟨#Hrec, ⟨%W, HO⟩, ⟨⟨Hc, Hat⟩, Hrest⟩, Hdone⟩
  iapply (wp_wait_slot m ρ K c (true, j) (j := j.succ) (congrArg SemLoc.dma (recvS_eq' (j.cast trips3.symm))) (slot_recv (j.cast trips3.symm))
    (expect_recv m ρ c j) (rest_recv m ρ c j) W) $$ [Hc HO Hat]
  · isplitr; · iapply (records_inv m ρ K c (some (true, j))); iexact Hrec
    isplitl [Hc]; · iexact Hc
    isplitl [HO]; · iexact HO
    iexact Hat
  iintro ⟨HO, Hpay, Hz⟩
  rw [wp_ret]; imodintro
  isplitr; · iexact Hrec
  isplitl [HO]; · iexact HO
  isplitl [Hrest]; · iexact Hrest
  isplitr [Hdone]
  · isplitl [Hpay]; · iexact Hpay
    iexact Hz
  iexact Hdone

/-- One wait for a departure: a read share of the source slot back, and the cell closed. -/
theorem left_trip (c : Dev nD) (k : Fin k0_t4_loop.trips) (u : Unit) :
    leftInv m ρ K c k.val ⊢ wp frame (wpE (defs₀ (F := F)) 𝒱₀ (c : Thread nD τ) none) Set.univ
      (k0_t4_body (F := F) xM (Memref.isWhole_whole _) iM (Memref.isWhole_whole _) wM (Memref.isWhole_whole _) oM (Memref.isWhole_whole _)
        commM (Memref.isWhole_whole _) cc0_scratch1 cc0_scratch2 k u)
      (fun _ => leftInv m ρ K c (k.val + 1)) := by
  obtain ⟨j, rfl⟩ : ∃ j : Fin 31, k = j.cast trips4.symm := ⟨k.cast trips4, rfl⟩
  unfold k0_t4_body
  simp only [Prog.lift, Prog.bind_op, Prog.bind_ret, Prog.pure_eq_ret]
  unfold leftInv
  simp only [Fin.val_cast]
  rw [peel j, stack j]
  unfold leftRes
  iintro ⟨#Hrec, ⟨%W, HO⟩, ⟨⟨Hc, Hat⟩, Hrest⟩, Hdone⟩
  iapply (wp_wait_slot m ρ K c (false, j) (j := 0) (congrArg SemLoc.dma (sendS_eq' (j.cast trips4.symm))) rfl
    (expect_send m ρ c j) (rest_send m ρ c j) W) $$ [Hc HO Hat]
  · isplitr; · iapply (records_inv m ρ K c (some (false, j))); iexact Hrec
    isplitl [Hc]; · iexact Hc
    isplitl [HO]; · iexact HO
    iexact Hat
  iintro ⟨HO, Hpay, Hz⟩
  rw [wp_ret]; imodintro
  isplitr; · iexact Hrec
  isplitl [HO]; · iexact HO
  isplitl [Hrest]; · iexact Hrest
  isplitr [Hdone]
  · isplitl [Hpay]; · iexact Hpay
    iexact Hz
  iexact Hdone

end Cert.Moe

end
-- ==== Proof.Parts.lean ====
/-
# The parts of the body in program order

The signal loop and the load of the expert numbers; the device's own block stored in slot 0, the barrier wait and the
send loop; the two wait loops, the result computed from the whole buffer and stored. Between the parts only values pass.
-/
module

public import proofs.«01_k».proof.Proof.Body

@[expose] public section

set_option backward.proofsInPublic true

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option (Bool × Fin 31) → ℕ)

/-! ## Slot 0, as the loads and the store name it -/

/-- The rectangle of slot 0. -/
abbrev r00 : Rect S32x16x512 := Rect.unit (s := S32x16x512) ![0, 0, 0] S1x16x512.size inb_S32x16x512_S1x16x512_0_0_0

theorem mem_r00 (i : S32x16x512.Idx) (hi : i ∈ r00.set) : i ∈ slotSet 0 := by
  rw [Rect.mem_set_unit] at hi
  rw [mem_slotSet]
  have h := (hi (0 : Fin 3)).2
  have e : (![0, 0, 0] : Fin 3 → Nat) 0 + S1x16x512.size 0 = 1 := rfl
  rw [e] at h
  show (i (0 : Fin 3)).val = 0
  omega

theorem load_slot0 : commM.view.setOn r00.set ⊆ slotSet 0 := fun i hi => by
  obtain ⟨y, hy, rfl⟩ := Finset.mem_map.mp hi
  exact mem_r00 y hy

theorem store_slot0 : (commM.access r00 : View sig .tc _ _ _).setOn Finset.univ ⊆ slotSet 0 := fun i hi => by
  obtain ⟨y, hy, rfl⟩ := Finset.mem_map.mp hi
  exact mem_r00 (r00.emb y) (r00.map_emb_univ ▸ Finset.mem_map_of_mem r00.emb (Finset.mem_univ y))

/-- After the store slot 0 holds the device's own block. -/
theorem stored_slot0 (c : Dev nD) (f : (cc0_scratch0 : Ref sig .tc).ty.Contents (Elt F)) (i : (cc0_scratch0 : Ref sig .tc).ty.Idx)
    (hi : i ∈ slotSet 0) :
    (commM.access r00 : View sig .tc _ _ _).write (Elt F) f (blockOf m ρ c) Finset.univ i = commAll m ρ c i := by
  have h0 : (i (0 : Fin 3)).val = 0 := (mem_slotSet 0 i).mp hi
  have hi' : i = (commM.access r00 : View sig .tc _ _ _).emb (ValueIdx.ix3 (0 : Fin 1) (i (1 : Fin 3)) (i (2 : Fin 3))) := by
    funext a
    refine Fin.ext ?_
    show (i a).val = (r00.emb (ValueIdx.ix3 (0 : Fin 1) (i (1 : Fin 3)) (i (2 : Fin 3))) a).val
    rw [Rect.emb_apply]
    fin_cases a
    · show (i (0 : Fin 3)).val = 0 + 1 * 0
      omega
    · show (i (1 : Fin 3)).val = 0 + 1 * (i (1 : Fin 3)).val
      omega
    · show (i (2 : Fin 3)).val = 0 + 1 * (i (2 : Fin 3)).val
      omega
  have hw := View.write_emb_of_mem (v := (commM.access r00 : View sig .tc _ _ _)) f (blockOf m ρ c)
    (Finset.mem_univ (ValueIdx.ix3 (0 : Fin 1) (i (1 : Fin 3)) (i (2 : Fin 3))))
  refine (congrArg (View.write (Elt F) (commM.access r00 : View sig .tc _ _ _) f (blockOf m ρ c) Finset.univ) hi').trans (hw.trans ?_)
  show blockOf m ρ c _ = blockOf m ρ (origin c (i (0 : Fin 3))) _
  rw [show i (0 : Fin 3) = (0 : Fin 32) from Fin.ext h0, origin_zero]
  rfl

/-! ## The staged buffers -/

abbrev xPts (c : Dev nD) : sProp 𝕄 := ((c : Thread nD τ).loc cc0_stg0_0) ↦{fullShare} stgX m ρ c
abbrev iPts (c : Dev nD) : sProp 𝕄 := ((c : Thread nD τ).loc cc0_stg1_0) ↦{fullShare} stgI m ρ c
abbrev wPts (c : Dev nD) : sProp 𝕄 := ((c : Thread nD τ).loc cc0_stg2_0) ↦{fullShare} stgW m ρ c

/-- The first part: every signal, and the expert numbers loaded. -/
theorem part1 (c : Dev nD) (W : Waits sig Unit) {Q} :
    iprop(records m ρ K ∗ owes (c : Thread nD τ) (O₀ c) W ∗ bigSep Finset.univ (sigRes c) ∗ iPts m ρ c
        ∗ (((∃ W, owes (c : Thread nD τ) (recvOwe c 0) W) ∗ iPts m ρ c)
            -∗ Q ⟨c, myWord c, SemArray.scalar (sig.barrier 0 rfl), k0_pay2 (stgI m ρ c), k0_pay3 (stgI m ρ c), cols16, k0_pay4, k0_pay5, k0_pay6⟩))
      ⊢ wp frame (wpE (defs₀ (F := F)) 𝒱₀ (c : Thread nD τ) none) Set.univ
        (k0_part1 (F := F) xM (Memref.isWhole_whole _) iM (Memref.isWhole_whole _) wM (Memref.isWhole_whole _) oM (Memref.isWhole_whole _)
          commM (Memref.isWhole_whole _) cc0_scratch1 cc0_scratch2) Q := by
  rw [k0_part1_eq_skeleton]; unfold k0_part1_skel myWord cols16
  simp only [Prog.lift, Prog.bind_op, Prog.bind_ret, Prog.pure_eq_ret, wp_deviceId]
  iintro ⟨#Hrec, HO, Hsig, Hi, HQ⟩
  iapply (Scf.wp_for_bind frame (wpE (defs₀ (F := F)) 𝒱₀ (c : Thread nD τ) none) Set.univ _ _ _ k0_t1_ok ⟨⟩ _ (fun k _ => sigInv m ρ K c k)
    (sig_trip m ρ K c)) $$ [HO Hsig]
  · unfold sigInv
    isplitr; · iexact Hrec
    isplitl [HO]; · iexists W; iexact HO
    rw [todo_zero]; iexact Hsig
  iintro %u HI
  unfold sigInv
  rw [show Scf.trips k0_t1_loop.lb k0_t1_loop.ub k0_t1_loop.st = 31 from trips1, barOwe_end, add_zero]
  icases HI with ⟨-, HO, -⟩
  iapply (wp_load 𝒱₀ (c : Thread nD τ) none Set.univ (m := iM) (Finset.subset_univ _)) $$ Hi; iintro Hi
  rw [read_i, wp_ret]; imodintro
  iapply HQ
  isplitl [HO]; · iexact HO
  iexact Hi

/-- The fourth part: the device's block into slot 0, the barrier wait, every send. -/
theorem part4 (c : Dev nD) (v2 : BitVec 32) {Q} :
    iprop(records m ρ K ∗ levAts L lv ∗ (∃ W, owes (c : Thread nD τ) (recvOwe c 0) W) ∗ cred (tallyAt (barCell c) () 31) ∗ atPos ER (barCell c) 0 ∅ 0
        ∗ xPts m ρ c ∗ wPts m ρ c ∗ (∃ f, slotPts c 0 fullShare f)
        ∗ bigSep Finset.univ (fun k => dutyTok ER (recvCell (dst c k) k) 0 (0 : Fin 31))
        ∗ bigSep Finset.univ (fun k => dutyTok ER (sendCell c k) 0 (0 : Fin 31))
        ∗ (((∃ W, owes (c : Thread nD τ) 0 W) ∗ xPts m ρ c ∗ wPts m ρ c ∗ slotPts c 0 (shareDrop fullShare 31) (commAll m ρ c)
              ∗ bigSep Finset.univ (fun k => cred (tallyAt (sendCell c k) () N)) ∗ semVal (barCell c) 0)
            -∗ Q ⟨cols512, k0_pay12, k0_pay13⟩))
      ⊢ wp frame (wpE (defs₀ (F := F)) 𝒱₀ (c : Thread nD τ) none) Set.univ
        (k0_part4 (F := F) xM (Memref.isWhole_whole _) iM (Memref.isWhole_whole _) wM (Memref.isWhole_whole _) oM (Memref.isWhole_whole _)
          commM (Memref.isWhole_whole _) cc0_scratch1 cc0_scratch2 c v2 (SemArray.scalar (sig.barrier 0 rfl)) (mineGate (myWord c) (stgI m ρ c))) Q := by
  rw [k0_part4_eq_skeleton]; unfold k0_part4_skel cols512
  simp only [semWaitWord, Prog.lift, Prog.bind_op, Prog.bind_ret, Prog.pure_eq_ret]
  iintro ⟨#Hrec, #Hlev, ⟨%W, HO⟩, HcB, HatB, Hx, Hw, ⟨%f, Hs0⟩, HtV, HtS, HQ⟩
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  unfold slotPts
  iapply (wp_load 𝒱₀ (c : Thread nD τ) none Set.univ (m := commM) load_slot0) $$ Hs0; iintro Hs0
  iapply (wp_store 𝒱₀ (c : Thread nD τ) none Set.univ (m := commM) (r := r00) (Mk := Finset.univ) store_slot0) $$ Hs0; iintro Hs0
  ihave Hs0 := (Entails.of_eq (pointsTo_congr fun i hi => stored_slot0 m ρ c f i hi)) $$ Hs0
  ihave Hs0 := (Transfers.pointsTo_toks_split fullShare 31) $$ Hs0
  icases Hs0 with ⟨Hdrop, Htoks⟩
  iapply (Rounds.wp_wait_rest_token 𝒱₀ ER (Rd m ρ) (c : Thread nD τ) none (κ := K (c, none))
      (wpE_semWait_eq 𝒱₀ (c : Thread nD τ) none Set.univ) (Set.mem_univ _) () (O := recvOwe c 0) (W := W) (R := 0) (m := 0) (T := ∅)
      (by rw [expect_bar]; decide)) $$ [HcB HO HatB]
  · isplitr; · iapply (records_inv m ρ K c none); iexact Hrec
    isplitl [HcB]; · iexact HcB
    isplitl [HO]; · iexact HO
    isplitr; · iapply (mayWait_bar c); iexact Hlev
    iexact HatB
  iintro ⟨HO, HatB, -, Hpay⟩
  ihave Hpay := (Entails.of_eq (rest_bar m ρ c)) $$ Hpay
  imod (Rounds.cell_close ER (Rd m ρ) (Set.mem_univ (K (c, none))) (fun h => h) (R := 0 + 1) (duties_later m ρ (barCell c))) $$ [HatB] with HzB
  · isplitr; · iapply (records_inv m ρ K c none); iexact Hrec
    iexact HatB
  have hbar : (bigSep Finset.univ (fun d => barPay c d) : sProp 𝕄) = bigSep Finset.univ (fun j : Fin 31 => iprop(∃ f, slotPts (dst c j) j.succ fullShare f)) := by
    rw [bigSep_univ_equiv Fin.revPerm (fun d => barPay c d)]
    refine congrArg _ (funext fun j => ?_)
    show barPay c j.rev = _
    unfold barPay
    rw [Fin.rev_rev]
  ihave Hpay := (Entails.of_eq hbar) $$ Hpay
  iapply (Scf.wp_for_bind frame (wpE (defs₀ (F := F)) 𝒱₀ (c : Thread nD τ) none) Set.univ _ _ _ k0_t2_ok ⟨⟩ _ (fun k _ => sendInv m ρ K c k)
    (send_trip m ρ K c v2 _ _)) $$ [HO Htoks Hpay HtS HtV]
  · unfold sendInv
    isplitr; · iexact Hrec
    isplitl [HO]; · iexists _; iexact HO
    rw [todo_zero, done_zero, bigSep_empty]
    isplitl
    · unfold sendRes slotPts
      rw [bigSep_sep', bigSep_sep', bigSep_sep']
      isplitl [Htoks]; · iexact Htoks
      isplitl [Hpay]; · iexact Hpay
      isplitl [HtS] <;> iassumption
    iempintro
  iintro %u HI
  unfold sendInv
  rw [show Scf.trips k0_t2_loop.lb k0_t2_loop.ub k0_t2_loop.st = 31 from trips2, recvOwe_end, done_end]
  icases HI with ⟨-, HO, -, Hc⟩
  rw [wp_ret]; imodintro
  iapply HQ
  isplitl [HO]; · iexact HO
  isplitl [Hx]; · iexact Hx
  isplitl [Hw]; · iexact Hw
  isplitl [Hdrop]; · iexact Hdrop
  isplitl [Hc]; · iexact Hc
  iexact HzB

/-! ## The whole body -/

/-- A staged buffer held whole at contents `X`, as the staging hands it over. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the last part leaves: the buffer with every block landed, every transfer's cell closed, the result stored. -/
def lastPost (c : Dev nD) : sProp 𝕄 :=
  iprop((∃ W, owes (c : Thread nD τ) 0 W) ∗ scrPts c (commAll m ρ c) ∗ bigSep Finset.univ (fun k => semVal (sendCell c k) 0)
    ∗ bigSep Finset.univ (fun k => semVal (recvCell c k) 0) ∗ (((c : Thread nD τ).loc cc0_stg3_0) ↦{fullShare} outAt m ρ c))

omit [FloatOps F] in
/-- The slots a device gives away with its signals, in the order of the signals. -/
theorem slots_give (c : Dev nD) (f₀ : Buf (Elt F) ((c : Thread nD τ).loc cc0_scratch0)) :
    (bigSep Finset.univ (fun k : Fin 31 => slotPts c k.succ fullShare f₀) : sProp 𝕄)
      ⊢ bigSep Finset.univ (fun j : Fin 31 => iprop(∃ f, slotPts c j.rev.succ fullShare f)) := by
  rw [bigSep_univ_equiv Fin.revPerm (fun k : Fin 31 => slotPts c k.succ fullShare f₀)]
  refine bigSep_mono fun j _ => ?_
  show slotPts c j.rev.succ fullShare f₀ ⊢ _
  iintro H; iexists f₀; iexact H

/-- The body from its resources to its results. -/
theorem body_run (c : Dev nD) (W : Waits sig Unit) (f₀ : Buf (Elt F) ((c : Thread nD τ).loc cc0_scratch0))
    (g₀ : Buf (Elt F) ((c : Thread nD τ).loc cc0_stg3_0)) (Kt : PUnit → sProp 𝕄) :
    iprop(ghost m ρ K c ∗ cred (tallyAt (barCell c) () 31) ∗ bigSep Finset.univ (fun k => cred (tallyAt (recvCell c k) () N)) ∗ levAts L lv
        ∗ scrPts c f₀ ∗ owes (c : Thread nD τ) (O₀ c) W ∗ xPts m ρ c ∗ iPts m ρ c ∗ wPts m ρ c
        ∗ (((c : Thread nD τ).loc cc0_stg3_0) ↦{fullShare} g₀)
        ∗ ((lastPost m ρ c ∗ semVal (barCell c) 0 ∗ xPts m ρ c ∗ iPts m ρ c ∗ wPts m ρ c) -∗ Kt ⟨⟩))
      ⊢ wp frame (wpE (defs₀ (F := F)) 𝒱₀ (c : Thread nD τ) none) Set.univ
        (cc0_body (F := F) xM (Memref.isWhole_whole _) iM (Memref.isWhole_whole _) wM (Memref.isWhole_whole _) oM (Memref.isWhole_whole _)
          commM (Memref.isWhole_whole _) cc0_scratch1 cc0_scratch2) Kt := by
  rw [cc0_body_eq_skeleton]; unfold cc0_body_skel
  rw [scr_slots]
  unfold ghost
  iintro ⟨⟨#Hrec, HatB, HatS, HatV, HtB, HtV, HtS⟩, HcB, HcV, #Hlev, ⟨Hs0, Hsl⟩, HO, Hx, Hi, Hw, Ho, HK⟩
  rw [wp_bind]
  iapply (part1 m ρ K c W)
  isplitr; · iexact Hrec
  isplitl [HO]; · iexact HO
  isplitl [HtB Hsl]
  · unfold sigRes
    rw [bigSep_sep']
    isplitl [HtB]; · iexact HtB
    ihave Hsl := (slots_give c f₀) $$ Hsl
    iexact Hsl
  isplitl [Hi]; · iexact Hi
  iintro ⟨HO, Hi⟩
  rw [k0_part2_eq_skeleton, k0_part3_eq_skeleton]
  unfold k0_part2_skel k0_part3_skel
  simp only [Prog.lift, Prog.bind_op, Prog.bind_ret, Prog.pure_eq_ret]
  rw [wp_bind]
  iapply (part4 m ρ K c (myWord c))
  isplitr; · iexact Hrec
  isplitr; · iexact Hlev
  isplitl [HO]; · iexact HO
  isplitl [HcB]; · iexact HcB
  isplitl [HatB]; · iexact HatB
  isplitl [Hx]; · iexact Hx
  isplitl [Hw]; · iexact Hw
  isplitl [Hs0]; · iexists f₀; iexact Hs0
  isplitl [HtV]; · iexact HtV
  isplitl [HtS]; · iexact HtS
  iintro ⟨⟨%W', HO⟩, Hx, Hw, Hdrop, HcS, HzB⟩
  rw [k0_part5_eq_skeleton, k0_part6_eq_skeleton]
  unfold k0_part5_skel k0_part6_skel
  simp only [Prog.lift, Prog.bind_op, Prog.bind_ret, Prog.pure_eq_ret]
  iapply (Scf.wp_for_bind frame (wpE (defs₀ (F := F)) 𝒱₀ (c : Thread nD τ) none) Set.univ _ _ _ k0_t3_ok ⟨⟩ _ (fun k _ => recvInv m ρ K c k)
    (recv_trip m ρ K c)) $$ [HO HcV HatV]
  · unfold recvInv
    isplitr; · iexact Hrec
    isplitl [HO]; · iexists W'; iexact HO
    rw [todo_zero, done_zero, bigSep_empty]
    isplitl
    · unfold recvRes
      rw [bigSep_sep']
      isplitl [HcV] <;> iassumption
    iempintro
  iintro %u HI
  unfold recvInv
  rw [show Scf.trips k0_t3_loop.lb k0_t3_loop.ub k0_t3_loop.st = 31 from trips3, done_end, bigSep_sep']
  icases HI with ⟨-, ⟨%W2, HO⟩, -, Hlanded, HzV⟩
  iapply (Scf.wp_for_bind frame (wpE (defs₀ (F := F)) 𝒱₀ (c : Thread nD τ) none) Set.univ _ _ _ k0_t4_ok ⟨⟩ _ (fun k _ => leftInv m ρ K c k)
    (left_trip m ρ K c)) $$ [HO HcS HatS]
  · unfold leftInv
    isplitr; · iexact Hrec
    isplitl [HO]; · iexists W2; iexact HO
    rw [todo_zero, done_zero, bigSep_empty]
    isplitl
    · unfold leftRes
      rw [bigSep_sep']
      isplitl [HcS] <;> iassumption
    iempintro
  iintro %u' HI
  unfold leftInv
  rw [show Scf.trips k0_t4_loop.lb k0_t4_loop.ub k0_t4_loop.st = 31 from trips4, done_end, bigSep_sep']
  icases HI with ⟨-, ⟨%W3, HO⟩, -, Hback, HzS⟩
  -- the buffer whole again: slot 0 from its shares, the landed slots
  ihave Hscr : scrPts c (commAll m ρ c) $$ [Hdrop Hback Hlanded]
  · rw [scr_slots]
    isplitl [Hdrop Hback]
    · unfold sendPay slotPts
      iapply (Transfers.pointsTo_toks_join fullShare 31)
      isplitl [Hdrop] <;> iassumption
    unfold recvPay
    iexact Hlanded
  unfold scrPts
  iapply (wp_load 𝒱₀ (c : Thread nD τ) none Set.univ (m := commM) (Finset.subset_univ _)) $$ Hscr; iintro Hscr
  rw [read_comm]
  iapply (wp_load 𝒱₀ (c : Thread nD τ) none Set.univ (m := oM) (Finset.subset_univ _)) $$ Ho; iintro Ho
  iapply (wp_store 𝒱₀ (c : Thread nD τ) none Set.univ (m := oM) (r := Rect.unit (s := S512x512) ![0, 0] S512x512.size inb_S512x512_S512x512_0_0) (Mk := Finset.univ) (Finset.subset_univ _)) $$ Ho; iintro Ho
  rw [write_out, wp_ret]; imodintro
  iapply HK
  unfold lastPost scrPts
  isplitl [HO Hscr HzS HzV Ho]
  · isplitl [HO]; · iexists W3; iexact HO
    isplitl [Hscr]; · iexact Hscr
    isplitl [HzS]; · iexact HzS
    isplitl [HzV]; · iexact HzV
    iexact Ho
  isplitl [HzB]; · iexact HzB
  isplitl [Hx]; · iexact Hx
  isplitl [Hi] <;> iassumption

end Cert.Moe

end
-- ==== Proof.Launch.lean ====
/-
# The launch

The body's resources come from the launch: every semaphore's invariant is opened for the whole mesh at once, each
device keeps the positions at its own cells, and the tokens of a cell's duties go to the devices that do them. What
the devices owe together is what each device's cells are credited.
-/
module

public import proofs.«01_k».proof.Proof.Parts
public import Idealize.ShloMosaic.Lib.Pipeline.CollectiveSegs
public import proofs.«01_k».proof.Proof.Gen.KernelIdeal.Launch

@[expose] public section

set_option backward.proofsInPublic true

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the staging calls it -/

theorem fin_N (t : Fin cfg0.N) : t = t0_0 := fin_N0 t

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem fetch_0 : (cfg0.win (0 : Fin 4)).fetch t0_0 = true := rfl
theorem fetch_1 : (cfg0.win (1 : Fin 4)).fetch t0_0 = true := rfl
theorem fetch_2 : (cfg0.win (2 : Fin 4)).fetch t0_0 = true := rfl

omit [FloatOps F] in
/-- A whole buffer owned at contents `X` is its points-to at them. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the staging hands the body. -/
def bodyPre (c : Dev nD) : sProp 𝕄 :=
  iprop(Φ₀ m ρ c ∗ (dats m ρ 0 c).owesAt () (t0_0 : Fin cfg0.N).castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
/-- What it takes back. -/
def bodyPost (c : Dev nD) : sProp 𝕄 :=
  iprop(Φ₁ m ρ c ∗ (dats m ρ 0 c).owesAt () (t0_0 : Fin cfg0.N).succ
    ∗ stg c cc0_stg0_0 (stgX m ρ c) ∗ stg c cc0_stg1_0 (stgI m ρ c) ∗ stg c cc0_stg2_0 (stgW m ρ c) ∗ stg c cc0_stg3_0 (outAt m ρ c))

theorem before_0 (c : Dev nD) (d) : (dats m ρ 0 c).before (0 : Fin 4) t0_0 d = stgX m ρ c := by
  unfold Dat.before; rw [if_pos fetch_0]; rfl
theorem before_1 (c : Dev nD) (d) : (dats m ρ 0 c).before (1 : Fin 4) t0_0 d = stgI m ρ c := by
  unfold Dat.before; rw [if_pos fetch_1]; rfl
theorem before_2 (c : Dev nD) (d) : (dats m ρ 0 c).before (2 : Fin 4) t0_0 d = stgW m ρ c := by
  unfold Dat.before; rw [if_pos fetch_2]; rfl

set_option maxRecDepth 4000 in
/-- The body takes what the staging hands it to what the staging takes back. -/
theorem body_obligation (c : Dev nD) : BodyObligation (dats (F := F) m ρ 0 c) (defs₀ (F := F)) 𝒱₀ () Set.univ := fun t => by
  rw [fin_N t]
  rw [bigSep_W, bigSep_W]
  simp only [owns_stg]
  show bodyPre m ρ c ⊢ wp frame (wpE (defs₀ (F := F)) 𝒱₀ c none) Set.univ
    (cc0_body (F := F) xM (Memref.isWhole_whole _) iM (Memref.isWhole_whole _) wM (Memref.isWhole_whole _) oM (Memref.isWhole_whole _)
      commM (Memref.isWhole_whole _) cc0_scratch1 cc0_scratch2) (fun _ => bodyPost m ρ c)
  unfold bodyPre Φ₀ start
  simp only [before_0, before_1, before_2]
  unfold Dat.owesAt Pipeline.owesWithin
  rw [show (dats m ρ 0 c).owed (t0_0 : Fin cfg0.N).castSucc = O₀ c from rfl]
  iintro ⟨⟨⟨⟨%K, Hg⟩, HcB, HcV, Hlev⟩, ⟨%f₀, Hscr⟩⟩, ⟨%W, -, HO⟩, ⟨%d0, %f0, %e0, Hx⟩, ⟨%d1, %f1, %e1, Hi⟩, ⟨%d2, %f2, %e2, Hw⟩, ⟨%d3, %f3, -, Ho⟩⟩
  subst e0; subst e1; subst e2
  iapply (body_run m ρ K c W f₀ f3 (fun _ => bodyPost m ρ c))
  isplitl [Hg]; · iexact Hg
  isplitl [HcB]; · iexact HcB
  isplitl [HcV]; · iexact HcV
  isplitl [Hlev]; · iexact Hlev
  isplitl [Hscr]; · iexact Hscr
  isplitl [HO]; · iexact HO
  isplitl [Hx]; · iexact Hx
  isplitl [Hi]; · iexact Hi
  isplitl [Hw]; · iexact Hw
  isplitl [Ho]; · iexact Ho
  unfold lastPost bodyPost Φ₁ Dat.owesAt Pipeline.owesWithin
  rw [show (dats m ρ 0 c).owed (t0_0 : Fin cfg0.N).succ = 0 from rfl]
  iintro ⟨⟨⟨%W', HO⟩, Hscr, HzS, HzV, Hout⟩, HzB, Hx, Hi, Hw⟩
  isplitl [Hscr HzS HzV HzB]
  · isplitl [Hscr]; · iexact Hscr
    isplitl [HzS]; · iexact HzS
    isplitl [HzV]; · iexact HzV
    iexact HzB
  isplitl [HO]
  · iexists W'
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

/-! ## Families over the protocol's cells -/

theorem ownSemFacts : Pipeline.OwnSemFacts spec0 osem where
  isScoped := by decide
  inj := osem_injective
  disj := by decide

omit [FloatOps F] in
/-- A family over a device's own cells: the send cells' members and the receive cells'. -/
theorem bigSep_own (Φ : Bool × Fin 31 → sProp 𝕄) :
    bigSep Finset.univ Φ = iprop(bigSep Finset.univ (fun k => Φ (false, k)) ∗ bigSep Finset.univ (fun k => Φ (true, k))) := by
  rw [bigSep_univ_prod]
  exact bigSep_univ_eq_bigSepL [false, true] (by decide) (by decide) _

omit [FloatOps F] in
/-- A family with one member more. -/
theorem bigSep_opt {A : Type} [Fintype A] (Φ : Option A → sProp 𝕄) :
    bigSep Finset.univ Φ = iprop(Φ none ∗ bigSep Finset.univ (fun a => Φ (some a))) := by
  rw [bigSep_univ_equiv (Equiv.optionEquivSumPUnit.{0, 0} A).symm Φ, bigSep_univ_sum, Finset.univ_unique (α := PUnit), bigSep_singleton]
  exact (BI.sep_comm).antisymm BI.sep_comm

omit [FloatOps F] in
/-- A family over all of a device's cells: the barrier's member, the send cells', the receive cells'. -/
theorem bigSep_cells (Φ : Option (Bool × Fin 31) → sProp 𝕄) :
    bigSep Finset.univ Φ = iprop(Φ none ∗ bigSep Finset.univ (fun k => Φ (some (false, k))) ∗ bigSep Finset.univ (fun k => Φ (some (true, k)))) := by
  rw [bigSep_opt, bigSep_own]

omit [FloatOps F] in
/-- Dealt around the circle: what stands with device `c` for distance `k + 1` goes to the device that far before it. -/
theorem bigSep_around (Φ : Dev nD → Fin 31 → sProp 𝕄) :
    bigSep Finset.univ (fun c => bigSep Finset.univ (fun k => Φ c k)) = bigSep Finset.univ (fun c => bigSep Finset.univ (fun k => Φ (dst c k) k)) := by
  rw [BI.bigSep_univ_comm, BI.bigSep_univ_comm (fun c k => Φ (dst c k) k)]
  exact bigSep_congr fun k _ => bigSep_univ_equiv (turn k) (fun c => Φ c k)

/-! ## The launch element -/

/-- Every cell of the protocol. -/
def allCells : Finset (GSem nD τ sig) := Finset.univ.map ⟨kcell, kcell_injective⟩

/-- The duty tokens: the barrier's for each distance, one for each transfer's departure and arrival. -/
def tokOf : Dev nD × Option Bool × Fin 31 → GSem nD τ sig × ℕ × Fin 31
  | (c, none, k) => (kcell (c, none), 0, k)
  | (c, some b, k) => (kcell (c, some (b, k)), 0, 0)

theorem tokOf_injective : Function.Injective tokOf := by
  rintro ⟨c, i, k⟩ ⟨c', i', k'⟩ h
  rcases i with _ | b <;> rcases i' with _ | b'
  · have h1 := kcell_injective (congrArg Prod.fst h)
    have h2 : k = k' := congrArg (fun x => x.2.2) h
    have h3 : c = c' := congrArg Prod.fst h1
    rw [h3, h2]
  · have h1 := congrArg Prod.snd (kcell_injective (congrArg Prod.fst h))
    cases h1
  · have h1 := congrArg Prod.snd (kcell_injective (congrArg Prod.fst h))
    cases h1
  · have h1 := kcell_injective (congrArg Prod.fst h)
    have h2 : (b, k) = (b', k') := Option.some.inj (congrArg Prod.snd h1)
    have h3 : c = c' := congrArg Prod.fst h1
    have h4 : b = b' := congrArg Prod.fst h2
    have h5 : k = k' := congrArg Prod.snd h2
    rw [h3, h4, h5]

def allToks : Finset (GSem nD τ sig × ℕ × Fin 31) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop(bigSep Finset.univ (fun k => dutyTok ER (barCell c) 0 k) ∗ bigSep Finset.univ (fun k => dutyTok ER (sendCell c k) 0 (0 : Fin 31))
    ∗ bigSep Finset.univ (fun k => dutyTok ER (recvCell c k) 0 (0 : Fin 31)))

/-- What the launch element deals device `c`. -/
def G (c : Dev nD) : sProp 𝕄 :=
  iprop(bigSep Finset.univ (fun i => roundState ER (Rd m ρ) (kcell (c, i)) 0)
    ∗ bigSep Finset.univ (fun i => iprop(atPos ER (kcell (c, i)) 0 ∅ 0 ∗ reached ER (kcell (c, i)) 0)) ∗ toks c)

/-- What the step over the whole mesh makes of it. -/
def G' (c : Dev nD) : sProp 𝕄 := iprop(∃ K, ghost m ρ K c)

omit [FloatOps F] in
theorem toks_eq (c : Dev nD) : (bigSep Finset.univ (fun x : Option Bool × Fin 31 => dutyTok ER (tokOf (c, x)).1 (tokOf (c, x)).2.1 (tokOf (c, x)).2.2) : sProp 𝕄) = toks c := by
  rw [bigSep_univ_prod, bigSep_opt, bigSep_univ_eq_bigSepL [false, true] (by decide) (by decide)]
  rfl

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores at zero: the send cells and the receive cells. -/
theorem ownSems0_eq (c : Dev nD) : (Pipeline.ownSems0 (Ix := Unit) (Name := ℕ) (U := UU) (Lvl := ℕ) (Val := Elt F) (τ := τ) osem c : sProp 𝕄)
    = iprop(bigSep Finset.univ (fun k => semVal (sendCell c k) 0) ∗ bigSep Finset.univ (fun k => semVal (recvCell c k) 0)) := by
  unfold Pipeline.ownSems0; rw [bigSep_own]; rfl
omit [FloatOps F] in
/-- The one semaphore that is not the kernel's own: the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i => semVal (kcell (c, i)) 0 : sProp 𝕄) := by
  rw [ownSems0_eq, unscopedSems0_eq, bigSep_cells]
  iintro ⟨⟨HS, HV⟩, HB⟩
  isplitl [HB]; · iexact HB
  isplitl [HS]; · iexact HS
  iexact HV

theorem cells_alloc (c : Dev nD) :
    iprop((bigSep Finset.univ fun i => semVal (kcell (c, i)) 0) ∗ bigSep Finset.univ fun i => roundState ER (Rd m ρ) (kcell (c, i)) 0)
      ⊢ (|={Set.univ}=> bigSep Finset.univ fun i => iprop(∃ κ : ℕ, cellInv ER (Rd m ρ) κ (kcell (c, i))) : sProp 𝕄) := by
  rw [← bigSep_sep']
  exact (bigSep_mono fun i _ => (Rounds.body_intro ER (Rd m ρ) (kcell (c, i))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (cells_alloc m ρ c) $$ [Hv Hst] with Hinv
  · isplitl [Hv] <;> iassumption
  imodintro
  isplitl [Hinv]; · iexact Hinv
  isplitl [Hat]; · iexact Hat
  iexact Htok

/-- The tokens of the duties device `c` does. -/
def payToks (c : Dev nD) : sProp 𝕄 :=
  iprop(bigSep Finset.univ (fun k => dutyTok ER (barCell (dst c k)) 0 k)
    ∗ bigSep Finset.univ (fun k => dutyTok ER (sendCell c k) 0 (0 : Fin 31))
    ∗ bigSep Finset.univ (fun k => dutyTok ER (recvCell (dst c k) k) 0 (0 : Fin 31)))
/-- What stays with device `c`: its positions and the tokens of the duties it does. -/
def linear (c : Dev nD) : sProp 𝕄 :=
  iprop((bigSep Finset.univ fun i => atPos ER (kcell (c, i)) 0 ∅ 0) ∗ payToks c)

theorem ghost_intro (K : Dev nD × Option (Bool × Fin 31) → ℕ) (c : Dev nD) : iprop(records m ρ K ∗ linear c) ⊢ G' m ρ c := by
  unfold linear payToks G' ghost
  rw [bigSep_cells]
  iintro ⟨#HR, ⟨HaB, HaS, HaV⟩, HtB, HtS, HtV⟩
  iexists K
  isplitr; · iexact HR
  isplitl [HaB]; · iexact HaB
  isplitl [HaS]; · iexact HaS
  isplitl [HaV]; · iexact HaV
  isplitl [HtB]; · iexact HtB
  isplitl [HtV]; · iexact HtV
  iexact HtS

omit [FloatOps F] in
/-- The tokens dealt to those who do the duties. -/
theorem toks_around : (bigSep Finset.univ fun c : Dev nD => (toks c : sProp 𝕄)) = bigSep Finset.univ fun c : Dev nD => payToks c := by
  unfold toks payToks
  simp only [bigSep_sep']
  rw [bigSep_around (fun c k => (dutyTok ER (barCell c) 0 k : sProp 𝕄)), bigSep_around (fun c k => (dutyTok ER (recvCell c k) 0 (0 : Fin 31) : sProp 𝕄))]

theorem regroup :
    (bigSep Finset.univ fun c : Dev nD => iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ci : Dev nD × Option (Bool × Fin 31) => iprop(∃ κ : ℕ, cellInv ER (Rd m ρ) κ (kcell ci))),
    bigSep_congr (s := Finset.univ) (fun (c : Dev nD) _ => bigSep_sep' Finset.univ (fun i => (atPos ER (kcell (c, i)) 0 ∅ 0 : sProp 𝕄)) (fun i => reached ER (kcell (c, i)) 0)),
    bigSep_sep', ← bigSep_univ_prod (fun ci : Dev nD × Option (Bool × Fin 31) => (reached ER (kcell ci) 0 : sProp 𝕄)), toks_around]
  iintro ⟨HI, ⟨Hat, #HR⟩, Htok⟩
  ihave HK := (BI.bigSep_exists_pi Finset.univ (fun (ci : Dev nD × Option (Bool × Fin 31)) (κ : ℕ) => (cellInv ER (Rd m ρ) κ (kcell ci) : sProp 𝕄))) $$ HI
  icases HK with ⟨%K, #HI⟩
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun i => (atPos ER (kcell (c, i)) 0 ∅ 0 : sProp 𝕄)) payToks).symm)
    isplitl [Hat]; · iexact Hat
    iexact Htok

/-- The step over the whole mesh: every device's semaphores and launch share become its ghost state. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What device `d` owes device `c`'s barrier: one for each of its signals that goes there. -/
theorem owed_bar (d c : Dev nD) : O₀ d (barCell c) () = ∑ j : Fin 31, if d = dst c j.rev then 1 else 0 := by
  unfold O₀
  rw [Pi.add_apply, Finsupp.add_apply, recvOwe_apply, barOwe_apply, todo_zero,
    Finset.sum_eq_zero (fun j _ => by rw [tallyAt_ne_cell (fun h => recv_ne_bar _ _ _ h.symm)]; rfl), Nat.zero_add]
  refine Finset.sum_congr rfl fun j _ => ?_
  rw [tallyAt_apply]
  refine if_congr ?_ rfl rfl
  rw [bar_eq_iff, and_iff_left rfl, eq_comm, dst_eq_iff]

/-- What device `d` owes device `c`'s arrival over distance `k + 1`: that transfer's credit, if it comes from `d`. -/
theorem owed_recv (d c : Dev nD) (k : Fin 31) : O₀ d (recvCell c k) () = if d = dst c k.rev then N else 0 := by
  unfold O₀
  rw [Pi.add_apply, Finsupp.add_apply, recvOwe_apply, barOwe_apply, todo_zero,
    Finset.sum_eq_zero (s := Finset.univ) (f := fun j : Fin 31 => tallyAt (barCell (dst d j)) () 1 (recvCell c k) ())
      (fun j _ => by rw [tallyAt_ne_cell (recv_ne_bar _ _ _)]; rfl), Nat.add_zero,
    Finset.sum_eq_single k]
  · rw [tallyAt_apply]
    refine if_congr ?_ rfl rfl
    rw [recv_eq_iff, and_iff_left rfl, and_iff_left rfl, eq_comm, dst_eq_iff]
  · intro j _ hj
    rw [tallyAt_apply, if_neg]
    rintro ⟨h, -⟩
    exact hj (recv_eq_iff.mp h).2.symm
  · intro h; exact absurd (Finset.mem_univ k) h

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (dst c j.rev) fun _ => 1).trans (if_pos (Finset.mem_univ _)),
    Finset.sum_const, Finset.card_univ, Fintype.card_fin, smul_eq_mul]

theorem launch_recv (c : Dev nD) (k : Fin 31) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (dst c k.rev) fun _ => N,
    if_pos (Finset.mem_univ _)]

/-- The receive semaphores, as an embedding of the distances. -/
def recvLoc : Fin 31 ↪ SemLoc sig := ⟨fun k => .dma (recvS k), fun j k h => by
  have h' := osem_injective (show osem (true, j) = osem (true, k) from h)
  exact congrArg Prod.snd h'⟩

omit [FloatOps F] in
theorem creds (c : Dev nD) :
    (Pipeline.launchCred O₀ c : sProp 𝕄) ⊢ iprop(cred (tallyAt (barCell c) () 31) ∗ bigSep Finset.univ (fun k => cred (tallyAt (recvCell c k) () N))) := by
  unfold Pipeline.launchCred
  rw [bigSep_univ_at _ (SemLoc.reg barS), launch_bar]
  refine sep_mono_right ?_
  have hsub : Finset.univ.map recvLoc ⊆ (Finset.univ : Finset (SemLoc sig)).erase (SemLoc.reg barS) := fun s hs => by
    obtain ⟨k, -, rfl⟩ := Finset.mem_map.mp hs
    exact Finset.mem_erase.mpr ⟨(fun h => by cases h), Finset.mem_univ _⟩
  refine (bigSep_subset hsub).trans ?_
  rw [bigSep_map]
  refine bigSep_mono fun k _ => ?_
  rw [← launch_recv]
  exact Entails.refl _

/-! ## Entering and leaving the region -/

/-- The unused argument's array, untouched. -/
def restPts (c : Dev nD) : sProp 𝕄 := ((c : Thread nD τ).loc main_arg1) ↦{fullShare} m ((c : Thread nD τ).loc main_arg1)

theorem start_intro (c : Dev nD) :
    iprop(Pipeline.unscopedRestP Pipeline.Prefetch.none spec0 c (fun b => m ((c : Thread nD τ).loc b)) ∗ levAts L lv
        ∗ Pipeline.launchCred O₀ c ∗ prngReg c (ρ c) ∗ G' m ρ c)
      ⊢ |={Set.univ}=> iprop(start m ρ c ∗ restPts m c) := by
  rw [Pipeline.unscopedRestP_none, unscopedRest0_eq]
  unfold start G' restPts
  iintro ⟨Hr, Hlev, Hcr, -, HG⟩
  ihave Hc := (creds (F := F) c) $$ Hcr
  icases Hc with ⟨H1, HN⟩
  imodintro
  isplitr [Hr]
  · isplitl [HG]; · iexact HG
    isplitl [H1]; · iexact H1
    isplitl [HN]; · iexact HN
    iexact Hlev
  · iexact Hr

theorem phi0_intro (c : Dev nD) :
    iprop(start m ρ c ∗ Pipeline.prefHeld Pipeline.Prefetch.none c (fun _ => fullShare.right) (fun k => k.elim0) ∗ Pipeline.scopedRest spec0 c)
      ⊢ (dats m ρ 0 c).Φ 0 := by
  rw [show (dats m ρ 0 c).Φ 0 = Φ₀ m ρ c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest spec0 c) := by
  rw [show (dats m ρ 0 c).Φ (Fin.last cfg0.N) = Φ₁ m ρ c from rfl, scopedRest0_eq, ownSems0_eq, unscopedSems0_eq]
  unfold Φ₁ scrPts
  iintro ⟨Hr, HzS, HzV, HzB⟩
  isplitl [HzB]; · iexact HzB
  isplitl [HzS HzV]
  · isplitl [HzS] <;> iassumption
  iexists (commAll m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- Window `w`'s array on device `c` after the run. -/
def finalA (c : Dev nD) (w : Fin cfg0.W) : Buf (Elt F) ((cfg0.win w).arr.view.loc (c : Thread nD τ)) := (dats m ρ 0 c).arrAt w cfg0.N

set_option maxRecDepth 8000 in
/-- From any memory with zero counters every weakly fair execution of the program on the thirty-two devices ends, with
    the windows' arrays as computed, the unused argument's array unchanged and every semaphore counter at zero. -/
theorem run_raw : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := restPts m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold restPts
      iintro ⟨Hu, Hr, HSI⟩
      icombine HSI Hr gives %hr
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ hr⟩
      iexact HSI)
    (hQ := fun _ h hs => ⟨fun c => ⟨fun w => (h c).1 w, (h c).2.2.2⟩, sem_eq_zero hs fun c => (h c).2.2.1⟩)

end Cert.Moe

end
-- ==== Proof.Run.lean ====
/-
# The run of the kernel, in closed form

The windows are whole arrays at their origin: what is staged is what the arguments hold, and the result array ends
holding what the body stored.
-/
module

public import proofs.«01_k».proof.Proof.Launch

@[expose] public section

set_option backward.proofsInPublic true

noncomputable section

namespace Cert.Moe

open Cert.KernelIdeal Cert.KernelIdeal.Gen
open Idealize.ShloMosaic
open Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## What is staged -/

theorem stgX_eq (c : Dev nD) : stgX m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
theorem stgI_eq (c : Dev nD) : stgI m ρ c = m ((c : Thread nD τ).loc main_arg2) := by
  have hz : (fun a => (win0_1.index (0 : Fin 1)) a * main_arg2.ty.shape.size a) = fun _ => 0 :=
    funext fun a => by fin_cases a <;> decide
  exact Memref.read_access_unit_zero (Elt F) main_arg2 hz (fun a => by fin_cases a <;> decide) _
theorem stgW_eq (c : Dev nD) : stgW m ρ c = m ((c : Thread nD τ).loc main_arg3) := by
  have hz : (fun a => (win0_2.index (0 : Fin 1)) a * main_arg3.ty.shape.size a) = fun _ => 0 :=
    funext fun a => by fin_cases a <;> decide
  exact Memref.read_access_unit_zero (Elt F) main_arg3 hz (fun a => by fin_cases a <;> decide) _

/-! ## What the arrays hold in the end -/

theorem finalA_x (c : Dev nD) : finalA m ρ c (0 : Fin 4) = m ((c : Thread nD τ).loc main_arg0) :=
  (dats (F := F) m ρ 0 c).arrAt_in (0 : Fin 4) rfl _
theorem finalA_i (c : Dev nD) : finalA m ρ c (1 : Fin 4) = m ((c : Thread nD τ).loc main_arg2) :=
  (dats (F := F) m ρ 0 c).arrAt_in (1 : Fin 4) rfl _
theorem finalA_w (c : Dev nD) : finalA m ρ c (2 : Fin 4) = m ((c : Thread nD τ).loc main_arg3) :=
  (dats (F := F) m ρ 0 c).arrAt_in (2 : Fin 4) rfl _

theorem finalA_read (c : Dev nD) :
    (win0_3.blk (0 : Fin 1)).view.read (Elt F) (finalA m ρ c (3 : Fin 4)) = outAt m ρ c := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

/-- The result array ends at what the body stored. -/
theorem finalA_out (c : Dev nD) : finalA m ρ c (3 : Fin 4) = outAt m ρ c := by
  have hz : (fun a => (win0_3.index (0 : Fin 1)) a * main_v1.ty.shape.size a) = fun _ => 0 :=
    funext fun a => by fin_cases a <;> decide
  exact (Memref.read_access_unit_zero (Elt F) main_v1 hz (fun a => by fin_cases a <;> decide) _).symm.trans (finalA_read m ρ c)

/-- From any memory with zero counters every weakly fair execution on the thirty-two devices ends; each device's result
    array then holds `outAt`, every argument array is unchanged, every semaphore counter is zero. -/
theorem run_main : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono
    (fun _ h => ⟨fun c => ⟨((h.1 c).1 (3 : Fin 4)).trans (finalA_out m ρ c), ((h.1 c).1 (0 : Fin 4)).trans (finalA_x m ρ c), (h.1 c).2,
      ((h.1 c).1 (1 : Fin 4)).trans (finalA_i m ρ c), ((h.1 c).1 (2 : Fin 4)).trans (finalA_w m ρ c)⟩, h.2⟩)
    (run_raw m ρ)

end Cert.Moe

end
-- ==== Proof.Frames.lean ====
/-
# The frames

The kernel, as printed and idealized, and the reference: each runs to its end, leaves its arguments as they were, and
leaves every semaphore counter at zero. The two kernels are one text, so the run is proved once, for any float values.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

set_option backward.proofsInPublic true

noncomputable section

namespace Cert.Moe

open Idealize.ShloMosaic Idealize.SL.Sem

/-- The idealized kernel runs, keeps its arguments, and ends with every counter at zero. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ)

/-- What `quiescent_Kernel` says, of the idealized text at the bit-exact floats. -/
theorem frame_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (run_main (F := Bits) m ρ)

/-- The two texts' bodies are one program. -/
theorem body_same : @Cert.Kernel.cc0_body Bits _ Cert.Kernel.Gen.facts = @Cert.KernelIdeal.cc0_body Bits _ Cert.KernelIdeal.Gen.facts := rfl

/-- So the two body tables are one. -/
theorem bodies_same : @Cert.Kernel.defs₀ Bits _ Cert.Kernel.Gen.facts = @Cert.KernelIdeal.defs₀ Bits _ Cert.KernelIdeal.Gen.facts := by
  refine congrArg Defs.onTc ?_
  funext l a
  match l, a with
  | ⟨0, _⟩, (t, s) =>
    exact congrFun (congrFun (congrFun (congrFun (congrFun (congrFun (congrFun (congrFun (congrFun (congrFun (congrFun (congrFun body_same _) _) _) _) _) _) _) _) _) _) _) _
  | ⟨n + 1, h⟩, _ => exact absurd h (by omega)

/-- And the two programs' tables, the launch's regions included. -/
theorem tables_same : @Cert.Kernel.defs Bits _ Cert.Kernel.Gen.facts = @Cert.KernelIdeal.defs Bits _ Cert.KernelIdeal.Gen.facts :=
  congrArg (Pipeline.defs (@Cert.KernelIdeal.pcfgs Bits Cert.KernelIdeal.Gen.facts)) bodies_same

/-- So does the kernel as printed, whose text is the same. -/
theorem frame_kernel : Cert.quiescent_Kernel (hKernel := Cert.Kernel.Gen.facts) := by
  intro m ρ _
  rw [tables_same]
  exact frame_bits m ρ

/-- So does the reference, which has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Words.lean ====
/-
# Words and indicators

Small facts, used by the value modules, on one-bit words read as the extended reals `0` and `1`, on natural numbers
among the extended reals, and on sums with one term.
-/
module

public import Idealize.ShloMosaic.Lib.Pointwise

@[expose] public section

set_option backward.proofsInPublic true

noncomputable section

namespace Cert.Moe

open Idealize.ShloMosaic

/-- A condition as an extended real: one where it holds, zero where not. -/
def ind (p : Prop) [Decidable p] : EReal := if p then 1 else 0

theorem ind_true {p : Prop} [Decidable p] (h : p) : ind p = 1 := if_pos h
theorem ind_false {p : Prop} [Decidable p] (h : ¬p) : ind p = 0 := if_neg h

/-- The product of two indicators is the indicator of both. -/
theorem ind_mul (p q : Prop) [Decidable p] [Decidable q] : ind p * ind q = ind (p ∧ q) := by
  by_cases hp : p <;> by_cases hq : q <;> simp [ind, hp, hq]

/-- A one-bit word, widened and read as a number, is the indicator of the bit. -/
theorem bit_ind (b : BitVec 1) : (FloatOps.sitofp (F := Ideal) FTy.f32 (BitVec.setWidth 32 b) : EReal) = ind (b = 1#1) := by
  have h : b = 0#1 ∨ b = 1#1 := by revert b; decide
  rcases h with rfl | rfl
  · rw [ind_false (by decide)]
    show (((BitVec.setWidth 32 0#1).toInt : ℝ) : EReal) = 0
    rw [show (BitVec.setWidth 32 0#1).toInt = 0 from by decide]; simp
  · rw [ind_true rfl]
    show (((BitVec.setWidth 32 1#1).toInt : ℝ) : EReal) = 1
    rw [show (BitVec.setWidth 32 1#1).toInt = 1 from by decide]; simp

/-- A small natural number's word, read as a number, is that number. -/
theorem word_num {n : ℕ} (h : n < 2 ^ 31) : (FloatOps.sitofp (F := Ideal) FTy.f32 (BitVec.ofNat 32 n) : EReal) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

/-- A sum of indicators over a finite type counts. -/
theorem sum_ind {ι : Type} [Fintype ι] (p : ι → Prop) [DecidablePred p] :
    ∑ i, ind (p i) = (((Finset.univ.filter p).card : ℝ) : EReal) := by
  have h : ∀ i, ind (p i) = (((if p i then (1 : ℝ) else 0) : ℝ) : EReal) := fun i => by
    by_cases hp : p i <;> simp [ind, hp]
  have hs : ∀ (s : Finset ι) (f : ι → ℝ), ∑ i ∈ s, ((f i : ℝ) : EReal) = ((∑ i ∈ s, f i : ℝ) : EReal) := fun s f => by
    classical
    induction s using Finset.induction_on with
    | empty => simp
    | insert a s ha ih => rw [Finset.sum_insert ha, Finset.sum_insert ha, ih, EReal.coe_add]
  rw [Finset.sum_congr rfl fun i _ => h i, hs, Finset.sum_boole]

/-- A sum whose factor is the indicator of one place is the term at that place. -/
theorem sum_at {ι : Type} [Fintype ι] (p : ι → Prop) [DecidablePred p] (f : ι → EReal) (a : ι) (ha : p a) (hu : ∀ i, p i → i = a) :
    ∑ i, ind (p i) * f i = f a := by
  rw [Finset.sum_eq_single a (fun i _ hi => by rw [ind_false (fun h => hi (hu i h)), zero_mul]) (fun h => absurd (Finset.mem_univ a) h),
    ind_true ha, one_mul]

/-- And zero where the condition holds nowhere. -/
theorem sum_none {ι : Type} [Fintype ι] (p : ι → Prop) [DecidablePred p] (f : ι → EReal) (hn : ∀ i, ¬p i) :
    ∑ i, ind (p i) * f i = 0 :=
  Finset.sum_eq_zero fun i _ => by rw [ind_false (hn i), zero_mul]

/-- The order of two small numbers is their words' signed order. -/
theorem slt_words {a b : ℕ} (ha : a < 2 ^ 31) (hb : b < 2 ^ 31) :
    (IntOp.cmpi CmpIPredicate.slt (BitVec.ofNat 32 a) (BitVec.ofNat 32 b) = 1#1) ↔ a < b := by
  have e : ∀ n : ℕ, n < 2 ^ 31 → (BitVec.ofNat 32 n).toInt = n := fun n hn => by
    rw [BitVec.toInt_eq_toNat_of_lt (by rw [BitVec.toNat_ofNat]; omega), BitVec.toNat_ofNat, Nat.mod_eq_of_lt (by omega)]
  show (BitVec.ofBool ((BitVec.ofNat 32 a).slt (BitVec.ofNat 32 b)) = 1#1) ↔ _
  have h : (BitVec.ofNat 32 a).slt (BitVec.ofNat 32 b) = decide (a < b) := by
    unfold BitVec.slt; rw [e a ha, e b hb]; simp
  rw [h]
  by_cases hab : a < b <;> simp [hab]

/-- Equal words. -/
theorem eq_words (a b : BitVec 32) : (IntOp.cmpi CmpIPredicate.eq a b = 1#1) ↔ a = b := by
  show (BitVec.ofBool (a == b) = 1#1) ↔ _
  by_cases hab : a = b
  · simp [hab]
  · rw [show (a == b) = false from beq_eq_false_iff_ne.mpr hab]
    simp [hab]

/-- Both bits. -/
theorem and_bits (a b : BitVec 1) : (IntOp.andi a b = 1#1) ↔ a = 1#1 ∧ b = 1#1 := by
  revert a b; decide

end Cert.Moe

end
-- ==== Proof.Rank.lean ====
/-
# A token's rank

How many earlier tokens chose the same expert, and what the kernel's count of them by matrix products comes to.
-/
module

public import proofs.«01_k».proof.Proof.Words
public import proofs.«01_k».proof.Proof.Sched

@[expose] public section

set_option backward.proofsInPublic true
set_option maxRecDepth 16384

noncomputable section

namespace Cert.Moe

open Cert.KernelIdeal Cert.KernelIdeal.Gen Idealize.ShloMosaic

/-- The expert number that token `t` chose, a word. -/
abbrev idOf (ids : IVec ⟨2, ![512, 1]⟩ 32) (t : Fin 512) : BitVec 32 := ids (ix2 t (0 : Fin 1))

/-- The tokens before `t` that chose `t`'s expert. -/
def earlier (ids : IVec ⟨2, ![512, 1]⟩ 32) (t : Fin 512) : Finset (Fin 512) :=
  Finset.univ.filter fun j => j < t ∧ idOf ids j = idOf ids t

/-- How many there are. -/
def rank (ids : IVec ⟨2, ![512, 1]⟩ 32) (t : Fin 512) : ℕ := (earlier ids t).card

theorem rank_lt (ids : IVec ⟨2, ![512, 1]⟩ 32) (t : Fin 512) : rank ids t < 513 := by
  have h := Finset.card_le_univ (earlier ids t)
  simp only [Fintype.card_fin] at h
  exact Nat.lt_succ_of_le h

/-- Of two tokens with one expert the later one has the greater rank. -/
theorem rank_mono (ids : IVec ⟨2, ![512, 1]⟩ 32) {s t : Fin 512} (h : s < t) (he : idOf ids s = idOf ids t) : rank ids s < rank ids t := by
  refine Finset.card_lt_card (Finset.ssubset_iff_subset_ne.mpr ⟨fun j hj => ?_, fun e => ?_⟩)
  · obtain ⟨-, h1, h2⟩ := Finset.mem_filter.mp hj
    exact Finset.mem_filter.mpr ⟨Finset.mem_univ _, h1.trans h, h2.trans he⟩
  · have hs : s ∈ earlier ids t := Finset.mem_filter.mpr ⟨Finset.mem_univ _, h, he⟩
    rw [← e] at hs
    exact absurd (Finset.mem_filter.mp hs).2.1 (lt_irrefl s)

/-- So a token is known by its expert and its rank. -/
theorem rank_inj (ids : IVec ⟨2, ![512, 1]⟩ 32) {s t : Fin 512} (he : idOf ids s = idOf ids t) (hr : rank ids s = rank ids t) : s = t := by
  rcases lt_trichotomy s t with h | h | h
  · exact absurd (rank_mono ids h he) (by omega)
  · exact h
  · exact absurd (rank_mono ids h he.symm) (by omega)

/-- The kernel's count, for a token whose expert exists: its rank. -/
theorem count_eq (ids : IVec S512x1 32) (t : Fin 512) (h : (idOf ids t).toNat < 128) :
    (k0_pay3 (F := Ideal) ids (ix2 t (0 : Fin 1)) : EReal) = ((rank ids t : ℝ) : EReal) := by
  pointwise [k0_pay3, k0_pay2]
  simp only [bit_ind, ind_mul, sum_ind]
  simp only [mul_comm _ (ind _)]
  rw [sum_at _ _ ⟨(idOf ids t).toNat, h⟩ ((eq_words _ _).mpr (by simp)) (fun i hi => Fin.ext ?_)]
  · refine congrArg (fun n : ℕ => ((n : ℝ) : EReal)) (congrArg Finset.card (Finset.filter_congr fun j _ => ?_))
    rw [slt_words (by omega) (by omega), eq_words]
    simp
  · have e : (idOf ids t).toNat = (BitVec.ofNat 32 i.val).toNat := congrArg BitVec.toNat ((eq_words _ _).mp hi)
    rw [BitVec.toNat_ofNat] at e
    show i.val = (idOf ids t).toNat
    have hi' := i.isLt
    omega

end Cert.Moe

end
-- ==== Proof.Gate.lean ====
/-
# The gates

Which token goes to which capacity row. Row `q` of the 512 belongs to slot `q / 16`; within a slot, row `p` belongs to
the device's expert `p / 4` and holds the expert's token of rank `p % 4`, the fourth row staying empty.
-/
module

public import proofs.«01_k».proof.Proof.Rank

@[expose] public section

set_option backward.proofsInPublic true
set_option maxRecDepth 16384

noncomputable section

namespace Cert.Moe

open Cert.KernelIdeal Cert.KernelIdeal.Gen Idealize.ShloMosaic

/-- Token `t` is expert `e`'s token of rank `r`, and within the capacity. -/
def Sits (ids : IVec ⟨2, ![512, 1]⟩ 32) (t : Fin 512) (e r : ℕ) : Prop := (idOf ids t).toNat = e ∧ rank ids t = r ∧ r < 3

instance (ids : IVec ⟨2, ![512, 1]⟩ 32) (t : Fin 512) (e r : ℕ) : Decidable (Sits ids t e r) := by unfold Sits; infer_instance

/-! ## The words of a row -/

/-- A row's rank word, as the kernel computes it from the row's place within the slot. -/
def rankWord (v : BitVec 32) : BitVec 32 :=
  let m := Scalar.select (Scalar.cmpi CmpIPredicate.eq 4#32 0#32) 1#32 4#32
  let r := IntOp.remsi ArithUnit.vector v m
  Scalar.select (IntOp.andi (IntOp.xori (IntOp.cmpi CmpIPredicate.slt r 0#32) (Scalar.cmpi CmpIPredicate.slt m 0#32)) (IntOp.cmpi CmpIPredicate.ne r 0#32)) (IntOp.addi r m) r

/-- The word of the device that a slot's block comes from. -/
def fromWord (w k : BitVec 32) : BitVec 32 :=
  let m := Scalar.select (Scalar.cmpi CmpIPredicate.eq 32#32 0#32) 1#32 32#32
  let r := IntOp.remsi ArithUnit.vector (IntOp.subi w k) m
  Scalar.select (IntOp.andi (IntOp.xori (IntOp.cmpi CmpIPredicate.slt r 0#32) (Scalar.cmpi CmpIPredicate.slt m 0#32)) (IntOp.cmpi CmpIPredicate.ne r 0#32)) (IntOp.addi r m) r

theorem rankWord_eq : ∀ p : Fin 16, rankWord (BitVec.ofNat 32 p.val) = BitVec.ofNat 32 (p.val % 4) := by decide +kernel
theorem fromWord_eq : ∀ (c k : Fin 32), fromWord (BitVec.ofNat 32 c.val) (BitVec.ofNat 32 k.val) = BitVec.ofNat 32 ((c.val + 32 - k.val) % 32) := by decide +kernel
theorem myWord_eq : ∀ c : Dev nD, myWord c = BitVec.ofNat 32 c.val := by decide +kernel

/-- The slot of row `q`. -/
theorem slot_word (t : Fin 512) (q : Fin 512) : k0_pay14 k0_pay12 k0_pay13 (ix2 t q) = BitVec.ofNat 32 (q.val / 16) := by
  pointwise [k0_pay14, k0_pay12, k0_pay13]
  revert q; decide +kernel
/-- The place of row `q` within its slot. -/
theorem place_word (t : Fin 512) (q : Fin 512) : k0_pay15 cols512 (ix2 t q) = BitVec.ofNat 32 (q.val % 16) := by
  pointwise [k0_pay15, cols512]
  revert q; decide +kernel
/-- The expert of row `q` among its device's four. -/
theorem expert_word (t : Fin 512) (q : Fin 512) : k0_pay16 cols512 (ix2 t q) = BitVec.ofNat 32 (q.val % 16 / 4) := by
  pointwise [k0_pay16, k0_pay15, cols512]
  revert q; decide +kernel
/-- The same of a device's own sixteen rows, which are one slot. -/
theorem mine_slot_word (t : Fin 512) (q : Fin 16) : k0_pay7 k0_pay4 k0_pay5 k0_pay6 (ix2 t q) = BitVec.ofNat 32 0 := by
  pointwise [k0_pay7, k0_pay4, k0_pay5, k0_pay6]
  revert q; decide +kernel
theorem mine_place_word (t : Fin 512) (q : Fin 16) : k0_pay8 cols16 (ix2 t q) = BitVec.ofNat 32 q.val := by
  pointwise [k0_pay8, cols16]
  revert q; decide +kernel
theorem mine_expert_word (t : Fin 512) (q : Fin 16) : k0_pay9 cols16 (ix2 t q) = BitVec.ofNat 32 (q.val / 4) := by
  pointwise [k0_pay9, k0_pay8, cols16]
  revert q; decide +kernel

/-! ## A gate's entry -/

/-- A gate's entry from the words of its row: expert, rank and capacity compared. -/
def entry (id : BitVec 32) (cnt : EReal) (d e r : BitVec 32) : EReal :=
  FloatOps.sitofp (F := Ideal) FTy.f32 (BitVec.setWidth 32
    (IntOp.andi (IntOp.andi (IntOp.cmpi CmpIPredicate.eq id (IntOp.addi (IntOp.muli d 4#32) e))
      (BitVec.ofBool (decide (cnt = FloatOps.sitofp (F := Ideal) FTy.f32 r)))) (IntOp.cmpi CmpIPredicate.slt r 3#32)))

/-- Read off small numbers, it says whether the token sits in the row. -/
theorem entry_eq (ids : IVec S512x1 32) (t : Fin 512) {d e r : ℕ} (hd : d < 32) (he : e < 4) (hr : r < 4) :
    entry (idOf ids t) (k0_pay3 (F := Ideal) ids (ix2 t (0 : Fin 1))) (BitVec.ofNat 32 d) (BitVec.ofNat 32 e) (BitVec.ofNat 32 r)
      = ind (Sits ids t (4 * d + e) r) := by
  have hw : IntOp.addi (IntOp.muli (BitVec.ofNat 32 d) 4#32) (BitVec.ofNat 32 e) = BitVec.ofNat 32 (4 * d + e) := by
    show BitVec.ofNat 32 d * 4#32 + BitVec.ofNat 32 e = _
    refine BitVec.eq_of_toNat_eq ?_
    simp only [BitVec.toNat_add, BitVec.toNat_mul, BitVec.toNat_ofNat]
    omega
  have hid : idOf ids t = BitVec.ofNat 32 (4 * d + e) ↔ (idOf ids t).toNat = 4 * d + e := by
    constructor
    · intro h; rw [h, BitVec.toNat_ofNat]; omega
    · intro h; exact BitVec.eq_of_toNat_eq (by rw [h, BitVec.toNat_ofNat]; omega)
  unfold entry
  rw [bit_ind, hw, word_num (by omega)]
  unfold ind
  refine if_congr ?_ rfl rfl
  rw [and_bits, and_bits, eq_words, hid, slt_words (b := 3) (by omega) (by omega)]
  unfold Sits
  constructor
  · rintro ⟨⟨h1, h2⟩, h3⟩
    rw [count_eq ids t (by omega)] at h2
    refine ⟨h1, ?_, h3⟩
    have h4 : ((rank ids t : ℝ) : EReal) = ((r : ℝ) : EReal) := by
      by_contra hn; rw [decide_eq_false hn] at h2; exact absurd h2 (by decide)
    exact_mod_cast EReal.coe_eq_coe_iff.mp h4
  · rintro ⟨h1, h2, h3⟩
    refine ⟨⟨h1, ?_⟩, h3⟩
    rw [count_eq ids t (by omega), h2, decide_eq_true rfl]; rfl

/-- The gate of all rows. -/
theorem allGate_eq (c : Dev nD) (ids : IVec S512x1 32) (t q : Fin 512) :
    (allGate (F := Ideal) (myWord c) ids (ix2 t q) : EReal) = ind (Sits ids t (4 * ((c.val + 32 - q.val / 16) % 32) + q.val % 16 / 4) (q.val % 4)) := by
  have h : (allGate (F := Ideal) (myWord c) ids (ix2 t q) : EReal)
      = entry (idOf ids t) (k0_pay3 (F := Ideal) ids (ix2 t (0 : Fin 1))) (fromWord (myWord c) (k0_pay14 k0_pay12 k0_pay13 (ix2 t q)))
          (k0_pay16 cols512 (ix2 t q)) (rankWord (k0_pay15 cols512 (ix2 t q))) := by
    unfold allGate
    pointwise [k0_pay17, k0_pay2]
    rfl
  rw [h, slot_word, place_word, expert_word, myWord_eq]
  have hc : c.val < 32 := c.isLt
  have e1 := fromWord_eq ⟨c.val, hc⟩ ⟨q.val / 16, by omega⟩
  have e2 := rankWord_eq ⟨q.val % 16, by omega⟩
  dsimp only at e1 e2
  rw [e1, e2, entry_eq ids t (by omega) (by omega) (by omega)]
  rw [show q.val % 16 % 4 = q.val % 4 from by omega]

/-- The gate of a device's own rows. -/
theorem mineGate_eq (c : Dev nD) (ids : IVec S512x1 32) (t : Fin 512) (p : Fin 16) :
    (mineGate (F := Ideal) (myWord c) ids (ix2 t p) : EReal) = ind (Sits ids t (4 * c.val + p.val / 4) (p.val % 4)) := by
  have h : (mineGate (F := Ideal) (myWord c) ids (ix2 t p) : EReal)
      = entry (idOf ids t) (k0_pay3 (F := Ideal) ids (ix2 t (0 : Fin 1))) (fromWord (myWord c) (k0_pay7 k0_pay4 k0_pay5 k0_pay6 (ix2 t p)))
          (k0_pay9 cols16 (ix2 t p)) (rankWord (k0_pay8 cols16 (ix2 t p))) := by
    unfold mineGate
    pointwise [k0_pay10, k0_pay2]
    rfl
  rw [h, mine_slot_word, mine_place_word, mine_expert_word, myWord_eq]
  have hc : c.val < 32 := c.isLt
  have e1 := fromWord_eq ⟨c.val, hc⟩ ⟨0, by omega⟩
  have e2 := rankWord_eq p
  dsimp only at e1 e2
  rw [e1, e2, entry_eq ids t (by omega) (by omega) (by omega)]
  rw [show (c.val + 32 - 0) % 32 = c.val from by omega]

end Cert.Moe

end
-- ==== Proof.Mixture.lean ====
/-
# What is computed

The capacity-limited mixture of experts: a token whose expert exists and whose rank is below the capacity is multiplied
by that expert's matrix; any other token's row is zero.
-/
module

public import proofs.«01_k».proof.Proof.Rank

@[expose] public section

set_option backward.proofsInPublic true

noncomputable section

namespace Cert.Moe

open Idealize.ShloMosaic

/-- Entry `(t, o)` of the result. -/
def mixAt (ids : IVec ⟨2, ![512, 1]⟩ 32) (x : FVec Ideal ⟨2, ![512, 256]⟩ .f32) (W : FVec Ideal ⟨3, ![128, 256, 512]⟩ .f32)
    (t : Fin 512) (o : Fin 512) : EReal :=
  if h : (idOf ids t).toNat < 128 then
    if rank ids t < 3 then ∑ d : Fin 256, x (ix2 t d) * W (ix3 ⟨(idOf ids t).toNat, h⟩ d o) else 0
  else 0

/-- The whole result. -/
def mix (ids : IVec ⟨2, ![512, 1]⟩ 32) (x : FVec Ideal ⟨2, ![512, 256]⟩ .f32) (W : FVec Ideal ⟨3, ![128, 256, 512]⟩ .f32) :
    FVec Ideal ⟨2, ![512, 512]⟩ .f32 := fun j => mixAt ids x W (j 0) (j 1)

end Cert.Moe

end
-- ==== Proof.Combine.lean ====
/-
# The kernel's value

A device's block holds, in each of its sixteen rows, the product of the one token that sits there with the row's expert,
or zero. The result picks, for each token, the one row in which it sits. Together: the mixture of experts.
-/
module

public import proofs.«01_k».proof.Proof.Gate
public import proofs.«01_k».proof.Proof.Mixture
public import Idealize.ShloMosaic.Lib.Layout

@[expose] public section

set_option backward.proofsInPublic true
set_option maxRecDepth 16384

noncomputable section

namespace Cert.Moe

open Cert.KernelIdeal Cert.KernelIdeal.Gen Idealize.ShloMosaic

/-- A block's row in which token `s` sits: the token times the row's expert. -/
theorem block_row (c : Dev nD) (ids : IVec S512x1 32) (x : FVec Ideal S512x256 .f32) (wt : FVec Ideal S4x256x512 .f32)
    (p : Fin 16) (o : Fin 512) (s : Fin 512) (hs : Sits ids s (4 * c.val + p.val / 4) (p.val % 4)) :
    (block (F := Ideal) (myWord c) ids x wt (ix3 (0 : Fin 1) p o) : EReal)
      = ∑ d : Fin 256, x (ix2 s d) * wt (ix3 ⟨p.val / 4, by omega⟩ d o) := by
  unfold block
  pointwise [k0_pay11]
  refine Finset.sum_congr rfl fun d _ => ?_
  refine congrArg (· * (wt (ix3 ⟨p.val / 4, by omega⟩ d o) : EReal)) ?_
  simp only [mineGate_eq]
  refine sum_at _ (fun k : Fin 512 => (x (ix2 k d) : EReal)) s hs fun t ht => ?_
  refine rank_inj ids (BitVec.eq_of_toNat_eq (ht.1.trans hs.1.symm)) (ht.2.1.trans hs.2.1.symm)

/-- The result's entry: a sum over the 512 rows of all slots, each row's gate times the row's content. -/
theorem out_entry (c : Dev nD) (ids : IVec S512x1 32) (comm : FVec Ideal S32x16x512 .bf16) (t o : Fin 512) :
    (k0_pay1 (F := Ideal) (allGate (myWord c) ids) comm (ix2 t o) : EReal)
      = ∑ q : Fin 512, ind (Sits ids t (4 * ((c.val + 32 - q.val / 16) % 32) + q.val % 16 / 4) (q.val % 4))
          * (comm (ix3 ⟨q.val / 16, by omega⟩ ⟨q.val % 16, by omega⟩ o) : EReal) := by
  pointwise [k0_pay1]
  simp only [allGate_eq]

/-- The kernel's entry is the mixture's, when every device has the same tokens and choices, and its own four experts. -/
theorem out_mix (c : Dev nD) (ids : IVec S512x1 32) (x : FVec Ideal S512x256 .f32) (W : FVec Ideal ⟨3, ![128, 256, 512]⟩ .f32)
    (wt : Dev nD → FVec Ideal S4x256x512 .f32)
    (hW : ∀ (k : Dev nD) (a : Fin 4) (d : Fin 256) (o : Fin 512) (h : 4 * k.val + a.val < 128), wt k (ix3 a d o) = W (ix3 ⟨4 * k.val + a.val, h⟩ d o))
    (comm : FVec Ideal S32x16x512 .bf16)
    (hcomm : ∀ (j : Fin 32) (p : Fin 16) (o : Fin 512), comm (ix3 j p o) = block (F := Ideal) (myWord (origin c j)) ids x (wt (origin c j)) (ix3 (0 : Fin 1) p o))
    (t o : Fin 512) : (k0_pay1 (F := Ideal) (allGate (myWord c) ids) comm (ix2 t o) : EReal) = mixAt ids x W t o := by
  rw [out_entry]
  unfold mixAt
  have hc : c.val < 32 := c.isLt
  by_cases h : (idOf ids t).toNat < 128
  · rw [dif_pos h]
    by_cases hr : rank ids t < 3
    · rw [if_pos hr]
      -- the row in which the token sits
      have hq : (c.val + 32 - (idOf ids t).toNat / 4) % 32 * 16 + ((idOf ids t).toNat % 4 * 4 + rank ids t) < 512 := by omega
      have hs : Sits ids t (4 * ((c.val + 32 - ((c.val + 32 - (idOf ids t).toNat / 4) % 32 * 16 + ((idOf ids t).toNat % 4 * 4 + rank ids t)) / 16) % 32)
          + ((c.val + 32 - (idOf ids t).toNat / 4) % 32 * 16 + ((idOf ids t).toNat % 4 * 4 + rank ids t)) % 16 / 4)
          (((c.val + 32 - (idOf ids t).toNat / 4) % 32 * 16 + ((idOf ids t).toNat % 4 * 4 + rank ids t)) % 4) := by
        refine ⟨?_, ?_, ?_⟩ <;> omega
      rw [sum_at _ _ ⟨_, hq⟩ hs (fun q hq' => Fin.ext ?_)]
      · rw [hcomm]
        rw [block_row (origin c _) ids x _ _ o t (by
          refine ⟨?_, ?_, ?_⟩
          · show _ = 4 * ((c.val + 32 - _) % 32) + _
            dsimp only
            omega
          · dsimp only; omega
          · dsimp only; omega)]
        refine Finset.sum_congr rfl fun d _ => congrArg ((x (ix2 t d) : EReal) * ·) ?_
        have ho : (origin c ⟨((c.val + 32 - (idOf ids t).toNat / 4) % 32 * 16 + ((idOf ids t).toNat % 4 * 4 + rank ids t)) / 16, by omega⟩).val = (idOf ids t).toNat / 4 := by
          show (c.val + 32 - _) % 32 = _
          dsimp only
          omega
        rw [hW _ _ d o (by rw [ho]; dsimp only; omega)]
        refine congrArg (fun n => W (ix3 n d o)) (Fin.ext ?_)
        show 4 * (origin c _).val + _ = _
        rw [ho]; dsimp only; omega
      · obtain ⟨h1, h2, h3⟩ := hq'
        have hql := q.isLt
        show q.val = (c.val + 32 - (idOf ids t).toNat / 4) % 32 * 16 + ((idOf ids t).toNat % 4 * 4 + rank ids t)
        omega
    · rw [if_neg hr]
      exact sum_none _ _ fun q hq => hr (by obtain ⟨h1, h2, h3⟩ := hq; omega)
  · rw [dif_neg h]
    exact sum_none _ _ fun q hq => h (by obtain ⟨h1, h2, h3⟩ := hq; omega)

end Cert.Moe

end
-- ==== Proof.RefValue.lean ====
/-
# The reference's value

The reference counts earlier equal choices, gathers each token's matrix, multiplies, and keeps the rows of the tokens that
are within the capacity: the mixture of experts.
-/
module

public import proofs.«01_k».proof.Proof.Mixture
public import proofs.«01_k».proof.Proof.Gen.ReferenceIdeal
public import Idealize.ShloMosaic.Lib.StableHlo.Predicate

@[expose] public section

set_option backward.proofsInPublic true
set_option maxRecDepth 16384

noncomputable section

namespace Cert.Moe

open Cert.ReferenceIdeal Cert.ReferenceIdeal.Facts₀ Idealize.ShloMosaic

/-- The choices as a vector. -/
def idVec (ids : IVec S512x1 32) : IVec S512 32 := shapeCast _ ids shapeCasts_S512x1_S512

/-- Which choices are equal to an earlier token's. -/
def sameEarlier (ids : IVec S512x1 32) : IVec S512x512 1 :=
  andi (cmpi .eq (broadcastInDim S512x512 ![0, 1] bcast_S1x512_S512x512_0_1 (broadcastInDim S1x512 ![1] bcast_S512_S1x512_1 (idVec ids)))
      (broadcastInDim S512x512 ![0, 1] bcast_S512x1_S512x512_0_1 (broadcastInDim S512x1 ![0] bcast_S512_S512x1_0 (idVec ids))))
    (cmpi .slt (iotaInDim S512x512 32 1) (iotaInDim S512x512 32 0))

/-- The ranks. -/
def rankVec (ids : IVec S512x1 32) : IVec S512 32 :=
  Host.reduce IntOp.addi (extui 32 (sameEarlier ids) natLt_1_32) (constantI S_ 32 0#32) reducesTo_S512x512_S512_d1 h_S_

/-- Which tokens are kept. -/
def keepVec (ids : IVec S512x1 32) : IVec S512 1 :=
  andi (andi (cmpi .slt (rankVec ids) (broadcastInDim S512 ![] bcast_S_S512 (constantI S_ 32 3#32)))
    (cmpi .sge (idVec ids) (broadcastInDim S512 ![] bcast_S_S512 (constantI S_ 32 0#32))))
    (cmpi .slt (idVec ids) (broadcastInDim S512 ![] bcast_S_S512 (constantI S_ 32 128#32)))

/-- The row of the experts' array that each token reads, a negative number counted from the end. -/
def rowVec (ids : IVec S512x1 32) : IVec S512x1 32 :=
  broadcastInDim S512x1 ![0] bcast_S512_S512x1_0 (select (cmpi .slt (idVec ids) (broadcastInDim S512 ![] bcast_S_S512 (constantI S_ 32 0#32)))
    (addi (idVec ids) (broadcastInDim S512 ![] bcast_S_S512 (constantI S_ 32 128#32))) (idVec ids))

/-- Each token's own matrix. -/
def matrices (ids : IVec S512x1 32) (W : FVec Ideal S128x256x512 .f32) : FVec Ideal S512x256x512 .f32 :=
  Host.gather gather_S128x256x512_S512x1_S512x256x512_12_0_n_n_0_1_1256512 W (rowVec ids)

/-- The reference's result. -/
def refOut (ids : IVec S512x1 32) (x : FVec Ideal S512x256 .f32) (W : FVec Ideal S128x256x512 .f32) : FVec Ideal S512x512 .f32 :=
  select (broadcastInDim S512x512 ![0, 1] bcast_S512x1_S512x512_0_1 (broadcastInDim S512x1 ![0] bcast_S512_S512x1_0 (keepVec ids)))
    (Host.dotGeneral dot_S512x256_S512x256x512_S512x512_1_1_n_2_0_0 none x (matrices ids W))
    (broadcastInDim S512x512 ![] bcast_S_S512x512 (id (constant S_ .f32 0x00000000#32)))

theorem idVec_apply (ids : IVec S512x1 32) (t : Fin 512) : idVec ids (ix1 t) = idOf ids t := by
  pointwise [idVec]

theorem sameEarlier_apply (ids : IVec S512x1 32) (t j : Fin 512) : sameEarlier ids (ix2 t j) = 1#1 ↔ j < t ∧ idOf ids j = idOf ids t := by
  pointwise [sameEarlier, idVec]
  rw [and_bits, eq_words, slt_words (by omega) (by omega)]
  exact ⟨fun h => ⟨h.2, h.1⟩, fun h => ⟨h.2, h.1⟩⟩

/-- The reference's rank is the number of earlier equal choices. -/
theorem rankVec_apply (ids : IVec S512x1 32) (t : Fin 512) : rankVec ids (ix1 t) = BitVec.ofNat 32 (rank ids t) := by
  refine BitVec.eq_of_toNat_eq ?_
  have h := StableHlo.Predicate.toNat_reduce_count_cols (n := 512) (m := 512) (by decide) (sameEarlier ids) natLt_1_32 reducesTo_S512x512_S512_d1 h_S_ (ix1 t)
  have hr := rank_lt ids t
  rw [BitVec.toNat_ofNat, Nat.mod_eq_of_lt (by omega)]
  refine h.trans (congrArg Finset.card (Finset.filter_congr fun j _ => ?_))
  exact sameEarlier_apply ids t j

/-- Signed comparison with zero and with 128 together: the number exists. -/
theorem inRange (w : BitVec 32) : (IntOp.cmpi CmpIPredicate.sge w 0#32 = 1#1 ∧ IntOp.cmpi CmpIPredicate.slt w 128#32 = 1#1) ↔ w.toNat < 128 := by
  have e1 : IntOp.cmpi CmpIPredicate.sge w 0#32 = BitVec.ofBool ((0#32).sle w) := rfl
  have e2 : IntOp.cmpi CmpIPredicate.slt w 128#32 = BitVec.ofBool (w.slt 128#32) := rfl
  have b : ∀ p : Bool, BitVec.ofBool p = 1#1 ↔ p = true := by decide
  rw [e1, e2, b, b]
  unfold BitVec.sle BitVec.slt
  rw [decide_eq_true_iff, decide_eq_true_iff, show (0#32).toInt = 0 from by decide, show (128#32).toInt = 128 from by decide]
  have hl := w.isLt
  rw [BitVec.toInt_eq_toNat_cond]
  split <;> omega

/-- A token is kept when its expert exists and its rank is below three. -/
theorem keepVec_apply (ids : IVec S512x1 32) (t : Fin 512) : keepVec ids (ix1 t) = 1#1 ↔ (idOf ids t).toNat < 128 ∧ rank ids t < 3 := by
  have h : keepVec ids (ix1 t) = IntOp.andi (IntOp.andi (IntOp.cmpi CmpIPredicate.slt (rankVec ids (ix1 t)) 3#32) (IntOp.cmpi CmpIPredicate.sge (idVec ids (ix1 t)) 0#32))
      (IntOp.cmpi CmpIPredicate.slt (idVec ids (ix1 t)) 128#32) := by
    pointwise [keepVec]
  rw [h, rankVec_apply, idVec_apply, and_bits, and_bits, slt_words (b := 3) (by have := rank_lt ids t; omega) (by omega), and_assoc, inRange, and_comm]

/-- The row that a token with an existing expert reads is that expert's. -/
theorem rowVec_apply (ids : IVec S512x1 32) (t : Fin 512) (h : (idOf ids t).toNat < 128) : rowVec ids (ix2 t (0 : Fin 1)) = idOf ids t := by
  have e : rowVec ids (ix2 t (0 : Fin 1)) = Scalar.select (IntOp.cmpi CmpIPredicate.slt (idVec ids (ix1 t)) 0#32) (IntOp.addi (idVec ids (ix1 t)) 128#32) (idVec ids (ix1 t)) := by
    pointwise [rowVec]
  rw [e, idVec_apply]
  have hz : IntOp.cmpi CmpIPredicate.slt (idOf ids t) 0#32 = 0#1 := by
    show BitVec.ofBool ((idOf ids t).slt 0#32) = 0#1
    have : (idOf ids t).slt 0#32 = false := by
      unfold BitVec.slt
      rw [decide_eq_false_iff_not, show (0#32).toInt = 0 from by decide, BitVec.toInt_eq_toNat_of_lt (by omega)]
      omega
    rw [this]; rfl
  rw [hz]; rfl

/-- A token's own matrix is its expert's. -/
theorem matrices_apply (ids : IVec S512x1 32) (W : FVec Ideal S128x256x512 .f32) (t : Fin 512) (d : Fin 256) (o : Fin 512)
    (h : (idOf ids t).toNat < 128) : matrices ids W (ix3 t d o) = W (ix3 ⟨(idOf ids t).toNat, h⟩ d o) := by
  unfold matrices Host.gather
  refine congrArg W (funext fun a => Fin.ext ?_)
  have hrow := rowVec_apply ids t h
  have hi : (idOf ids t).toInt.toNat = (idOf ids t).toNat := by rw [BitVec.toInt_eq_toNat_of_lt (by omega)]; rfl
  match a with
  | ⟨0, _⟩ =>
    show min (rowVec ids _).toInt.toNat (128 - 1) + 0 + 0 = (idOf ids t).toNat
    rw [show (gather_S128x256x512_S512x1_S512x256x512_12_0_n_n_0_1_1256512.siIdx (ix3 t d o) _ : S512x1.Idx) = ix2 t (0 : Fin 1) from ?_, hrow, hi]
    · omega
    · funext b
      match b with
      | ⟨0, _⟩ => rfl
      | ⟨1, _⟩ => rfl
  | ⟨1, _⟩ => show 0 + 0 + d.val = d.val; omega
  | ⟨2, _⟩ => show 0 + 0 + o.val = o.val; omega

/-- The reference computes the mixture of experts. -/
theorem refOut_apply (ids : IVec S512x1 32) (x : FVec Ideal S512x256 .f32) (W : FVec Ideal S128x256x512 .f32) (t o : Fin 512) :
    (refOut ids x W (ix2 t o) : EReal) = mixAt ids x W t o := by
  have h : (refOut ids x W (ix2 t o) : EReal)
      = Scalar.select (keepVec ids (ix1 t)) (∑ d : Fin 256, x (ix2 t d) * matrices ids W (ix3 t d o) : EReal) 0 := by
    pointwise [refOut, id]
  rw [h]
  unfold mixAt
  have hk := keepVec_apply ids t
  by_cases h1 : keepVec ids (ix1 t) = 1#1
  · obtain ⟨h2, h3⟩ := hk.mp h1
    rw [h1, dif_pos h2, if_pos h3]
    refine (if_pos rfl).trans ?_
    exact Finset.sum_congr rfl fun d _ => by rw [matrices_apply ids W t d o h2]
  · have h0 : keepVec ids (ix1 t) = 0#1 := by
      have : ∀ b : BitVec 1, b ≠ 1#1 → b = 0#1 := by decide
      exact this _ h1
    rw [h0]
    refine (if_neg (by decide)).trans ?_
    by_cases h2 : (idOf ids t).toNat < 128
    · rw [dif_pos h2, if_neg fun h3 => h1 (hk.mpr ⟨h2, h3⟩)]
    · rw [dif_neg h2]

/-- The whole of it. -/
theorem refOut_eq (ids : IVec S512x1 32) (x : FVec Ideal S512x256 .f32) (W : FVec Ideal S128x256x512 .f32) : refOut ids x W = mix ids x W := by
  funext j
  rw [eq_ix2 j]
  exact refOut_apply ids x W _ _

end Cert.Moe

end
-- ==== Proof.Algebraic.lean ====
/-
# Kernel and reference compute one function

Every device's result is the mixture of experts of the whole arrays, and so is the reference's.
-/
module

public import proofs.«01_k».proof.Defs
public import proofs.«01_k».proof.Proof.Run
public import proofs.«01_k».proof.Proof.Combine
public import proofs.«01_k».proof.Proof.RefValue
public import proofs.«01_k».proof.Proof.Gen.ReferenceIdeal.Run

@[expose] public section

set_option backward.proofsInPublic true

noncomputable section

namespace Cert.Moe

open Idealize.ShloMosaic Idealize.SL.Sem

/-- A device's experts: expert `a` of device `k` is expert `4 k + a` of the whole array. -/
theorem own_experts (W : FVec Ideal ⟨3, ![128, 256, 512]⟩ .f32) (k : Fin 32) (a : Fin 4) (d : Fin 256) (o : Fin 512) (h : 4 * k.val + a.val < 128) :
    Layout.block ⟨3, ![4, 256, 512]⟩ ⟨3, ![128, 256, 512]⟩ 0 32 k W (by decide) (ix3 a d o) = W (ix3 ⟨4 * k.val + a.val, h⟩ d o) := by
  rw [Layout.block_apply]
  refine congrArg W (funext fun b => Fin.ext ?_)
  rw [Layout.Tiles.idx_val]
  match b with
  | ⟨0, _⟩ => show k.val * 4 + a.val = 4 * k.val + a.val; omega
  | ⟨1, _⟩ => rfl
  | ⟨2, _⟩ => rfl

/-- Every device's result is the mixture, when the devices hold one copy of the tokens and of the choices, and each its
    block of the experts. -/
theorem outAt_eq (m : (ℓ : Loc Cert.KernelIdeal.nD Cert.KernelIdeal.τ Cert.KernelIdeal.sig) → Buf (Elt Ideal) ℓ) (ρ : Dev Cert.KernelIdeal.nD → PrngReg)
    (x : FVec Ideal ⟨2, ![512, 256]⟩ .f32) (ids : IVec ⟨2, ![512, 1]⟩ 32) (W : FVec Ideal ⟨3, ![128, 256, 512]⟩ .f32)
    (hx : ∀ c : Dev Cert.KernelIdeal.nD, m ((c.tc : Thread Cert.KernelIdeal.nD Cert.KernelIdeal.τ).loc Cert.KernelIdeal.main_arg0) = x)
    (hi : ∀ c : Dev Cert.KernelIdeal.nD, m ((c.tc : Thread Cert.KernelIdeal.nD Cert.KernelIdeal.τ).loc Cert.KernelIdeal.main_arg2) = ids)
    (hw : ∀ c : Dev Cert.KernelIdeal.nD, m ((c.tc : Thread Cert.KernelIdeal.nD Cert.KernelIdeal.τ).loc Cert.KernelIdeal.main_arg3)
      = Layout.block ⟨3, ![4, 256, 512]⟩ ⟨3, ![128, 256, 512]⟩ 0 32 c W)
    (c : Dev Cert.KernelIdeal.nD) : outAt (F := Ideal) m ρ c = mix ids x W := by
  funext j
  rw [eq_ix2 j]
  have e := out_mix c ids x W (fun k => Layout.block ⟨3, ![4, 256, 512]⟩ ⟨3, ![128, 256, 512]⟩ 0 32 k W) (fun k a d o h => own_experts W k a d o h)
    (commAll (F := Ideal) m ρ c) (fun j p o => ?_) (j 0) (j 1)
  · unfold outAt
    rw [stgI_eq, hi c]
    exact e
  · show blockOf (F := Ideal) m ρ (origin c j) (ValueIdx.ix3 (0 : Fin 1) p o) = _
    unfold blockOf
    rw [stgI_eq, stgX_eq, stgW_eq, hx, hi, hw, ix3_eq_valueIdx]

/-- Kernel and reference compute one function over the extended reals. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨mix (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun _ h c => ⟨(h.1 c).1.trans ?_, (h.1 c).2⟩) (run_main (F := Ideal) m ρ)
    exact outAt_eq m ρ _ _ _ (fun c => (hagree c).1) (fun c => (hagree c).2.2.1) (fun c => (hagree c).2.2.2) c
  · exact (θ_run Cert.ReferenceIdeal.defs _ _).mono (fun _ h => ⟨(h 0).1.trans (refOut_eq _ _ _), (h 0).2⟩)
      (Cert.ReferenceIdeal.Value.run (F := Ideal) m' ρ')

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Frames
public import proofs.«01_k».proof.Proof.Algebraic

@[expose] public section

set_option backward.proofsInPublic true

namespace Cert.Proof

open Cert.Moe

theorem claim : Cert.Claim :=
  ⟨Cert.Kernel.Gen.facts, Cert.KernelIdeal.Gen.facts, Cert.ReferenceIdeal.Gen.facts,
    frame_kernel, frame_ideal, frame_reference, trivial, algebraic⟩

end Cert.Proof

end
